-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v31)) (v1 : (c : Dev Cert.KernelIdeal.nD) → Buf (Elt Ideal) ((c.tc : Thread Cert.KernelIdeal.nD Cert.KernelIdeal.τ).loc Cert.KernelIdeal.main_v32)) (v2 : (c : Dev Cert.KernelIdeal.nD) → Buf (Elt Ideal) ((c.tc : Thread Cert.KernelIdeal.nD Cert.KernelIdeal.τ).loc Cert.KernelIdeal.main_cst_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_cst_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v369) = v0 c
          ∧ r.2.mem ((c.tc : Thread Cert.ReferenceIdeal.nD Cert.ReferenceIdeal.τ).loc Cert.ReferenceIdeal.main_v370) = v1 c
          ∧ r.2.mem ((c.tc : Thread Cert.ReferenceIdeal.nD Cert.ReferenceIdeal.τ).loc Cert.ReferenceIdeal.main_v371) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x256x64x64 : Shape := ⟨4, ![8, 256, 64, 64]⟩
abbrev S8x512x32x32 : Shape := ⟨4, ![8, 512, 32, 32]⟩
abbrev S8x256x16x16 : Shape := ⟨4, ![8, 256, 16, 16]⟩
abbrev S8x3x512x512 : Shape := ⟨4, ![8, 3, 512, 512]⟩
abbrev S16x256x3x3 : Shape := ⟨4, ![16, 256, 3, 3]⟩
abbrev S16 : Shape := ⟨1, ![16]⟩
abbrev S84x256x3x3 : Shape := ⟨4, ![84, 256, 3, 3]⟩
abbrev S84 : Shape := ⟨1, ![84]⟩
abbrev S24x512x3x3 : Shape := ⟨4, ![24, 512, 3, 3]⟩
abbrev S24 : Shape := ⟨1, ![24]⟩
abbrev S126x512x3x3 : Shape := ⟨4, ![126, 512, 3, 3]⟩
abbrev S126 : Shape := ⟨1, ![126]⟩
abbrev S24x256x3x3 : Shape := ⟨4, ![24, 256, 3, 3]⟩
abbrev S126x256x3x3 : Shape := ⟨4, ![126, 256, 3, 3]⟩
abbrev S2x4096 : Shape := ⟨2, ![2, 4096]⟩
abbrev S2x1024 : Shape := ⟨2, ![2, 1024]⟩
abbrev S2x256 : Shape := ⟨2, ![2, 256]⟩
abbrev S1x2x24064x4 : Shape := ⟨4, ![1, 2, 24064, 4]⟩
abbrev S100x256x3x3 : Shape := ⟨4, ![100, 256, 3, 3]⟩
abbrev S3x3x256x100 : Shape := ⟨4, ![3, 3, 256, 100]⟩
abbrev S9x256x100 : Shape := ⟨3, ![9, 256, 100]⟩
abbrev S100 : Shape := ⟨1, ![100]⟩
abbrev S1x100 : Shape := ⟨2, ![1, 100]⟩
abbrev S150x512x3x3 : Shape := ⟨4, ![150, 512, 3, 3]⟩
abbrev S3x3x512x150 : Shape := ⟨4, ![3, 3, 512, 150]⟩
abbrev S9x512x150 : Shape := ⟨3, ![9, 512, 150]⟩
abbrev S150 : Shape := ⟨1, ![150]⟩
abbrev S1x150 : Shape := ⟨2, ![1, 150]⟩
abbrev S150x256x3x3 : Shape := ⟨4, ![150, 256, 3, 3]⟩
abbrev S3x3x256x150 : Shape := ⟨4, ![3, 3, 256, 150]⟩
abbrev S9x256x150 : Shape := ⟨3, ![9, 256, 150]⟩
abbrev S8x256x4096 : Shape := ⟨3, ![8, 256, 4096]⟩
abbrev S8x512x1024 : Shape := ⟨3, ![8, 512, 1024]⟩
abbrev S8x256x256 : Shape := ⟨3, ![8, 256, 256]⟩
abbrev S8x4096x100 : Shape := ⟨3, ![8, 4096, 100]⟩
abbrev S8x1024x150 : Shape := ⟨3, ![8, 1024, 150]⟩
abbrev S8x256x150 : Shape := ⟨3, ![8, 256, 150]⟩
abbrev S1x256x4096 : Shape := ⟨3, ![1, 256, 4096]⟩
abbrev S1x512x1024 : Shape := ⟨3, ![1, 512, 1024]⟩
abbrev S1x256x256 : Shape := ⟨3, ![1, 256, 256]⟩
abbrev S1x4096x100 : Shape := ⟨3, ![1, 4096, 100]⟩
abbrev S1x1024x150 : Shape := ⟨3, ![1, 1024, 150]⟩
abbrev S1x256x150 : Shape := ⟨3, ![1, 256, 150]⟩
abbrev S256x4096 : Shape := ⟨2, ![256, 4096]⟩
abbrev S1x4096 : Shape := ⟨2, ![1, 4096]⟩
abbrev S4096x100 : Shape := ⟨2, ![4096, 100]⟩
abbrev S256x65 : Shape := ⟨2, ![256, 65]⟩
abbrev S256x4031 : Shape := ⟨2, ![256, 4031]⟩
abbrev S1x256x100 : Shape := ⟨3, ![1, 256, 100]⟩
abbrev S256x100 : Shape := ⟨2, ![256, 100]⟩
abbrev S256x64 : Shape := ⟨2, ![256, 64]⟩
abbrev S256x4032 : Shape := ⟨2, ![256, 4032]⟩
abbrev S256x63 : Shape := ⟨2, ![256, 63]⟩
abbrev S256x4033 : Shape := ⟨2, ![256, 4033]⟩
abbrev S256x1 : Shape := ⟨2, ![256, 1]⟩
abbrev S256x4095 : Shape := ⟨2, ![256, 4095]⟩
abbrev S512x1024 : Shape := ⟨2, ![512, 1024]⟩
abbrev S1x1024 : Shape := ⟨2, ![1, 1024]⟩
abbrev S1024x150 : Shape := ⟨2, ![1024, 150]⟩
abbrev S512x33 : Shape := ⟨2, ![512, 33]⟩
abbrev S512x991 : Shape := ⟨2, ![512, 991]⟩
abbrev S1x512x150 : Shape := ⟨3, ![1, 512, 150]⟩
abbrev S512x150 : Shape := ⟨2, ![512, 150]⟩
abbrev S512x32 : Shape := ⟨2, ![512, 32]⟩
abbrev S512x992 : Shape := ⟨2, ![512, 992]⟩
abbrev S512x31 : Shape := ⟨2, ![512, 31]⟩
abbrev S512x993 : Shape := ⟨2, ![512, 993]⟩
abbrev S512x1 : Shape := ⟨2, ![512, 1]⟩
abbrev S512x1023 : Shape := ⟨2, ![512, 1023]⟩
abbrev S256x256 : Shape := ⟨2, ![256, 256]⟩
abbrev S1x256 : Shape := ⟨2, ![1, 256]⟩
abbrev S256x150 : Shape := ⟨2, ![256, 150]⟩
abbrev S256x17 : Shape := ⟨2, ![256, 17]⟩
abbrev S256x239 : Shape := ⟨2, ![256, 239]⟩
abbrev S256x16 : Shape := ⟨2, ![256, 16]⟩
abbrev S256x240 : Shape := ⟨2, ![256, 240]⟩
abbrev S256x15 : Shape := ⟨2, ![256, 15]⟩
abbrev S256x241 : Shape := ⟨2, ![256, 241]⟩
abbrev S256x255 : Shape := ⟨2, ![256, 255]⟩
abbrev S8x4096x84 : Shape := ⟨3, ![8, 4096, 84]⟩
abbrev S8x16384x21 : Shape := ⟨3, ![8, 16384, 21]⟩
abbrev S8x4096x16 : Shape := ⟨3, ![8, 4096, 16]⟩
abbrev S8x16384x4 : Shape := ⟨3, ![8, 16384, 4]⟩
abbrev S8x1024x126 : Shape := ⟨3, ![8, 1024, 126]⟩
abbrev S8x6144x21 : Shape := ⟨3, ![8, 6144, 21]⟩
abbrev S8x1024x24 : Shape := ⟨3, ![8, 1024, 24]⟩
abbrev S8x6144x4 : Shape := ⟨3, ![8, 6144, 4]⟩
abbrev S8x256x126 : Shape := ⟨3, ![8, 256, 126]⟩
abbrev S8x1536x21 : Shape := ⟨3, ![8, 1536, 21]⟩
abbrev S8x256x24 : Shape := ⟨3, ![8, 256, 24]⟩
abbrev S8x1536x4 : Shape := ⟨3, ![8, 1536, 4]⟩
abbrev S8x24064x4 : Shape := ⟨3, ![8, 24064, 4]⟩
abbrev S8x24064x21 : Shape := ⟨3, ![8, 24064, 21]⟩

abbrev nBuf : Space → Nat
  | .hbm => 55
  | .vmem => 21
  | .smem => 0
  | _ => 0

abbrev bufTy : (tb : Table) → Fin (tcTables nBuf tb) → BufTy
  | .hbm, ⟨0, _⟩ => ⟨S8x256x64x64, .f32⟩
  | .hbm, ⟨1, _⟩ => ⟨S8x512x32x32, .f32⟩
  | .hbm, ⟨2, _⟩ => ⟨S8x256x16x16, .f32⟩
  | .hbm, ⟨3, _⟩ => ⟨S8x3x512x512, .f32⟩
  | .hbm, ⟨4, _⟩ => ⟨S16x256x3x3, .f32⟩
  | .hbm, ⟨5, _⟩ => ⟨S16, .f32⟩
  | .hbm, ⟨6, _⟩ => ⟨S84x256x3x3, .f32⟩
  | .hbm, ⟨7, _⟩ => ⟨S84, .f32⟩
  | .hbm, ⟨8, _⟩ => ⟨S24x512x3x3, .f32⟩
  | .hbm, ⟨9, _⟩ => ⟨S24, .f32⟩
  | .hbm, ⟨10, _⟩ => ⟨S126x512x3x3, .f32⟩
  | .hbm, ⟨11, _⟩ => ⟨S126, .f32⟩
  | .hbm, ⟨12, _⟩ => ⟨S24x256x3x3, .f32⟩
  | .hbm, ⟨13, _⟩ => ⟨S24, .f32⟩
  | .hbm, ⟨14, _⟩ => ⟨S126x256x3x3, .f32⟩
  | .hbm, ⟨15, _⟩ => ⟨S126, .f32⟩
  | .hbm, ⟨16, _⟩ => ⟨S2x4096, .f32⟩
  | .hbm, ⟨17, _⟩ => ⟨S2x1024, .f32⟩
  | .hbm, ⟨18, _⟩ => ⟨S2x256, .f32⟩
  | .hbm, ⟨19, _⟩ => ⟨S1x2x24064x4, .f32⟩
  | .hbm, ⟨20, _⟩ => ⟨S100x256x3x3, .f32⟩
  | .hbm, ⟨21, _⟩ => ⟨S3x3x256x100, .f32⟩
  | .hbm, ⟨22, _⟩ => ⟨S9x256x100, .f32⟩
  | .hbm, ⟨23, _⟩ => ⟨S100, .f32⟩
  | .hbm, ⟨24, _⟩ => ⟨S1x100, .f32⟩
  | .hbm, ⟨25, _⟩ => ⟨S150x512x3x3, .f32⟩
  | .hbm, ⟨26, _⟩ => ⟨S3x3x512x150, .f32⟩
  | .hbm, ⟨27, _⟩ => ⟨S9x512x150, .f32⟩
  | .hbm, ⟨28, _⟩ => ⟨S150, .f32⟩
  | .hbm, ⟨29, _⟩ => ⟨S1x150, .f32⟩
  | .hbm, ⟨30, _⟩ => ⟨S150x256x3x3, .f32⟩
  | .hbm, ⟨31, _⟩ => ⟨S3x3x256x150, .f32⟩
  | .hbm, ⟨32, _⟩ => ⟨S9x256x150, .f32⟩
  | .hbm, ⟨33, _⟩ => ⟨S150, .f32⟩
  | .hbm, ⟨34, _⟩ => ⟨S1x150, .f32⟩
  | .hbm, ⟨35, _⟩ => ⟨S8x256x4096, .f32⟩
  | .hbm, ⟨36, _⟩ => ⟨S8x512x1024, .f32⟩
  | .hbm, ⟨37, _⟩ => ⟨S8x256x256, .f32⟩
  | .hbm, ⟨38, _⟩ => ⟨S8x4096x100, .f32⟩
  | .hbm, ⟨39, _⟩ => ⟨S8x1024x150, .f32⟩
  | .hbm, ⟨40, _⟩ => ⟨S8x256x150, .f32⟩
  | .hbm, ⟨41, _⟩ => ⟨S8x4096x84, .f32⟩
  | .hbm, ⟨42, _⟩ => ⟨S8x16384x21, .f32⟩
  | .hbm, ⟨43, _⟩ => ⟨S8x4096x16, .f32⟩
  | .hbm, ⟨44, _⟩ => ⟨S8x16384x4, .f32⟩
  | .hbm, ⟨45, _⟩ => ⟨S8x1024x126, .f32⟩
  | .hbm, ⟨46, _⟩ => ⟨S8x6144x21, .f32⟩
  | .hbm, ⟨47, _⟩ => ⟨S8x1024x24, .f32⟩
  | .hbm, ⟨48, _⟩ => ⟨S8x6144x4, .f32⟩
  | .hbm, ⟨49, _⟩ => ⟨S8x256x126, .f32⟩
  | .hbm, ⟨50, _⟩ => ⟨S8x1536x21, .f32⟩
  | .hbm, ⟨51, _⟩ => ⟨S8x256x24, .f32⟩
  | .hbm, ⟨52, _⟩ => ⟨S8x1536x4, .f32⟩
  | .hbm, ⟨53, _⟩ => ⟨S8x24064x4, .f32⟩
  | .hbm, ⟨54, _⟩ => ⟨S8x24064x21, .f32⟩
  | .local _ .vmem, ⟨0, _⟩ => ⟨S1x256x4096, .f32⟩
  | .local _ .vmem, ⟨1, _⟩ => ⟨S1x256x4096, .f32⟩
  | .local _ .vmem, ⟨2, _⟩ => ⟨S1x512x1024, .f32⟩
  | .local _ .vmem, ⟨3, _⟩ => ⟨S1x512x1024, .f32⟩
  | .local _ .vmem, ⟨4, _⟩ => ⟨S1x256x256, .f32⟩
  | .local _ .vmem, ⟨5, _⟩ => ⟨S1x256x256, .f32⟩
  | .local _ .vmem, ⟨6, _⟩ => ⟨S9x256x100, .f32⟩
  | .local _ .vmem, ⟨7, _⟩ => ⟨S9x512x150, .f32⟩
  | .local _ .vmem, ⟨8, _⟩ => ⟨S9x256x150, .f32⟩
  | .local _ .vmem, ⟨9, _⟩ => ⟨S1x100, .f32⟩
  | .local _ .vmem, ⟨10, _⟩ => ⟨S1x150, .f32⟩
  | .local _ .vmem, ⟨11, _⟩ => ⟨S1x150, .f32⟩
  | .local _ .vmem, ⟨12, _⟩ => ⟨S2x4096, .f32⟩
  | .local _ .vmem, ⟨13, _⟩ => ⟨S2x1024, .f32⟩
  | .local _ .vmem, ⟨14, _⟩ => ⟨S2x256, .f32⟩
  | .local _ .vmem, ⟨15, _⟩ => ⟨S1x4096x100, .f32⟩
  | .local _ .vmem, ⟨16, _⟩ => ⟨S1x4096x100, .f32⟩
  | .local _ .vmem, ⟨17, _⟩ => ⟨S1x1024x150, .f32⟩
  | .local _ .vmem, ⟨18, _⟩ => ⟨S1x1024x150, .f32⟩
  | .local _ .vmem, ⟨19, _⟩ => ⟨S1x256x150, .f32⟩
  | .local _ .vmem, ⟨20, _⟩ => ⟨S1x256x150, .f32⟩
  | _, _ => ⟨S8x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_cst_0 : Ref sig .tc := ⟨.hbm, 17, rfl⟩
abbrev main_cst_1 : Ref sig .tc := ⟨.hbm, 18, rfl⟩
abbrev main_cst_2 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18_0 : Ref sig .tc := ⟨.hbm, 38, rfl⟩
abbrev main_v18_1 : Ref sig .tc := ⟨.hbm, 39, rfl⟩
abbrev main_v18_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S9x256x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S9x512x150 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S9x256x150 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x100 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x150 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x150 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x4096x100 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1024x150 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x150 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S8x256x64x64 : Shape := ⟨4, ![8, 256, 64, 64]⟩
abbrev S8x512x32x32 : Shape := ⟨4, ![8, 512, 32, 32]⟩
abbrev S8x256x16x16 : Shape := ⟨4, ![8, 256, 16, 16]⟩
abbrev S8x3x512x512 : Shape := ⟨4, ![8, 3, 512, 512]⟩
abbrev S16x256x3x3 : Shape := ⟨4, ![16, 256, 3, 3]⟩
abbrev S16 : Shape := ⟨1, ![16]⟩
abbrev S84x256x3x3 : Shape := ⟨4, ![84, 256, 3, 3]⟩
abbrev S84 : Shape := ⟨1, ![84]⟩
abbrev S24x512x3x3 : Shape := ⟨4, ![24, 512, 3, 3]⟩
abbrev S24 : Shape := ⟨1, ![24]⟩
abbrev S126x512x3x3 : Shape := ⟨4, ![126, 512, 3, 3]⟩
abbrev S126 : Shape := ⟨1, ![126]⟩
abbrev S24x256x3x3 : Shape := ⟨4, ![24, 256, 3, 3]⟩
abbrev S126x256x3x3 : Shape := ⟨4, ![126, 256, 3, 3]⟩
abbrev S1x64x4 : Shape := ⟨3, ![1, 64, 4]⟩
abbrev S64x1x4 : Shape := ⟨3, ![64, 1, 4]⟩
abbrev S4 : Shape := ⟨1, ![4]⟩
abbrev S1x32x6 : Shape := ⟨3, ![1, 32, 6]⟩
abbrev S32x1x6 : Shape := ⟨3, ![32, 1, 6]⟩
abbrev S1x16x6 : Shape := ⟨3, ![1, 16, 6]⟩
abbrev S16x1x6 : Shape := ⟨3, ![16, 1, 6]⟩
abbrev S_ : Shape := ⟨0, ![]⟩
abbrev S8x256x66x66 : Shape := ⟨4, ![8, 256, 66, 66]⟩
abbrev S16x256x1x1 : Shape := ⟨4, ![16, 256, 1, 1]⟩
abbrev S16x256 : Shape := ⟨2, ![16, 256]⟩
abbrev S8x64x64x16 : Shape := ⟨4, ![8, 64, 64, 16]⟩
abbrev S1x1x1x16 : Shape := ⟨4, ![1, 1, 1, 16]⟩
abbrev S84x256x1x1 : Shape := ⟨4, ![84, 256, 1, 1]⟩
abbrev S84x256 : Shape := ⟨2, ![84, 256]⟩
abbrev S8x64x64x84 : Shape := ⟨4, ![8, 64, 64, 84]⟩
abbrev S1x1x1x84 : Shape := ⟨4, ![1, 1, 1, 84]⟩
abbrev S64x64x4 : Shape := ⟨3, ![64, 64, 4]⟩
abbrev S64x64x4x1 : Shape := ⟨4, ![64, 64, 4, 1]⟩
abbrev S64x64x4x4 : Shape := ⟨4, ![64, 64, 4, 4]⟩
abbrev S16384x4 : Shape := ⟨2, ![16384, 4]⟩
abbrev S1x4 : Shape := ⟨2, ![1, 4]⟩
abbrev S1x1x1x4 : Shape := ⟨4, ![1, 1, 1, 4]⟩
abbrev S16384x1x1x4 : Shape := ⟨4, ![16384, 1, 1, 4]⟩
abbrev S65536 : Shape := ⟨1, ![65536]⟩
abbrev S1x65536 : Shape := ⟨2, ![1, 65536]⟩
abbrev S2x65536 : Shape := ⟨2, ![2, 65536]⟩
abbrev S1x2x65536 : Shape := ⟨3, ![1, 2, 65536]⟩
abbrev S8x512x34x34 : Shape := ⟨4, ![8, 512, 34, 34]⟩
abbrev S24x512x1x1 : Shape := ⟨4, ![24, 512, 1, 1]⟩
abbrev S24x512 : Shape := ⟨2, ![24, 512]⟩
abbrev S8x32x32x24 : Shape := ⟨4, ![8, 32, 32, 24]⟩
abbrev S1x1x1x24 : Shape := ⟨4, ![1, 1, 1, 24]⟩
abbrev S126x512x1x1 : Shape := ⟨4, ![126, 512, 1, 1]⟩
abbrev S126x512 : Shape := ⟨2, ![126, 512]⟩
abbrev S8x32x32x126 : Shape := ⟨4, ![8, 32, 32, 126]⟩
abbrev S1x1x1x126 : Shape := ⟨4, ![1, 1, 1, 126]⟩
abbrev S32x32x6 : Shape := ⟨3, ![32, 32, 6]⟩
abbrev S32x32x6x1 : Shape := ⟨4, ![32, 32, 6, 1]⟩
abbrev S32x32x6x4 : Shape := ⟨4, ![32, 32, 6, 4]⟩
abbrev S6144x4 : Shape := ⟨2, ![6144, 4]⟩
abbrev S6144x1x1x4 : Shape := ⟨4, ![6144, 1, 1, 4]⟩
abbrev S24576 : Shape := ⟨1, ![24576]⟩
abbrev S1x24576 : Shape := ⟨2, ![1, 24576]⟩
abbrev S2x24576 : Shape := ⟨2, ![2, 24576]⟩
abbrev S1x2x24576 : Shape := ⟨3, ![1, 2, 24576]⟩
abbrev S8x256x18x18 : Shape := ⟨4, ![8, 256, 18, 18]⟩
abbrev S24x256x1x1 : Shape := ⟨4, ![24, 256, 1, 1]⟩
abbrev S24x256 : Shape := ⟨2, ![24, 256]⟩
abbrev S8x16x16x24 : Shape := ⟨4, ![8, 16, 16, 24]⟩
abbrev S126x256x1x1 : Shape := ⟨4, ![126, 256, 1, 1]⟩
abbrev S126x256 : Shape := ⟨2, ![126, 256]⟩
abbrev S8x16x16x126 : Shape := ⟨4, ![8, 16, 16, 126]⟩
abbrev S16x16x6 : Shape := ⟨3, ![16, 16, 6]⟩
abbrev S16x16x6x1 : Shape := ⟨4, ![16, 16, 6, 1]⟩
abbrev S16x16x6x4 : Shape := ⟨4, ![16, 16, 6, 4]⟩
abbrev S1536x4 : Shape := ⟨2, ![1536, 4]⟩
abbrev S1536x1x1x4 : Shape := ⟨4, ![1536, 1, 1, 4]⟩
abbrev S6144 : Shape := ⟨1, ![6144]⟩
abbrev S1x6144 : Shape := ⟨2, ![1, 6144]⟩
abbrev S2x6144 : Shape := ⟨2, ![2, 6144]⟩
abbrev S1x2x6144 : Shape := ⟨3, ![1, 2, 6144]⟩
abbrev S8x65536 : Shape := ⟨2, ![8, 65536]⟩
abbrev S8x24576 : Shape := ⟨2, ![8, 24576]⟩
abbrev S8x6144 : Shape := ⟨2, ![8, 6144]⟩
abbrev S8x96256 : Shape := ⟨2, ![8, 96256]⟩
abbrev S8x344064 : Shape := ⟨2, ![8, 344064]⟩
abbrev S8x129024 : Shape := ⟨2, ![8, 129024]⟩
abbrev S8x32256 : Shape := ⟨2, ![8, 32256]⟩
abbrev S8x505344 : Shape := ⟨2, ![8, 505344]⟩
abbrev S1x2x96256 : Shape := ⟨3, ![1, 2, 96256]⟩
abbrev S8x24064x4 : Shape := ⟨3, ![8, 24064, 4]⟩
abbrev S8x24064x21 : Shape := ⟨3, ![8, 24064, 21]⟩
abbrev S1x2x24064x4 : Shape := ⟨4, ![1, 2, 24064, 4]⟩

abbrev nBuf : Space → Nat
  | .hbm => 421
  | .vmem => 0
  | .smem => 0
  | _ => 0

abbrev hbmTy0_0 (i : Nat) : BufTy := match i % 128 with
  | 0 => ⟨S8x256x64x64, .f32⟩
  | 1 => ⟨S8x512x32x32, .f32⟩
  | 2 => ⟨S8x256x16x16, .f32⟩
  | 3 => ⟨S8x3x512x512, .f32⟩
  | 4 => ⟨S16x256x3x3, .f32⟩
  | 5 => ⟨S16, .f32⟩
  | 6 => ⟨S84x256x3x3, .f32⟩
  | 7 => ⟨S84, .f32⟩
  | 8 => ⟨S24x512x3x3, .f32⟩
  | 9 => ⟨S24, .f32⟩
  | 10 => ⟨S126x512x3x3, .f32⟩
  | 11 => ⟨S126, .f32⟩
  | 12 => ⟨S24x256x3x3, .f32⟩
  | 13 => ⟨S24, .f32⟩
  | 14 => ⟨S126x256x3x3, .f32⟩
  | 15 => ⟨S126, .f32⟩
  | 16 => ⟨S1x64x4, .f32⟩
  | 17 => ⟨S64x1x4, .f32⟩
  | 18 => ⟨S1x64x4, .f32⟩
  | 19 => ⟨S64x1x4, .f32⟩
  | 20 => ⟨S4, .f32⟩
  | 21 => ⟨S1x32x6, .f32⟩
  | 22 => ⟨S32x1x6, .f32⟩
  | 23 => ⟨S1x32x6, .f32⟩
  | 24 => ⟨S32x1x6, .f32⟩
  | 25 => ⟨S4, .f32⟩
  | 26 => ⟨S1x16x6, .f32⟩
  | 27 => ⟨S16x1x6, .f32⟩
  | 28 => ⟨S1x16x6, .f32⟩
  | 29 => ⟨S16x1x6, .f32⟩
  | 30 => ⟨S4, .f32⟩
  | 31 => ⟨S_, .i32⟩
  | 32 => ⟨S_, .f32⟩
  | 33 => ⟨S8x256x66x66, .f32⟩
  | 34 => ⟨S8x256x64x64, .f32⟩
  | 35 => ⟨S16x256x1x1, .f32⟩
  | 36 => ⟨S16x256, .f32⟩
  | 37 => ⟨S8x64x64x16, .f32⟩
  | 38 => ⟨S_, .f32⟩
  | 39 => ⟨S8x64x64x16, .f32⟩
  | 40 => ⟨S8x64x64x16, .f32⟩
  | 41 => ⟨S8x256x64x64, .f32⟩
  | 42 => ⟨S16x256x1x1, .f32⟩
  | 43 => ⟨S16x256, .f32⟩
  | 44 => ⟨S8x64x64x16, .f32⟩
  | 45 => ⟨S8x64x64x16, .f32⟩
  | 46 => ⟨S8x256x64x64, .f32⟩
  | 47 => ⟨S16x256x1x1, .f32⟩
  | 48 => ⟨S16x256, .f32⟩
  | 49 => ⟨S8x64x64x16, .f32⟩
  | 50 => ⟨S8x64x64x16, .f32⟩
  | 51 => ⟨S8x256x64x64, .f32⟩
  | 52 => ⟨S16x256x1x1, .f32⟩
  | 53 => ⟨S16x256, .f32⟩
  | 54 => ⟨S8x64x64x16, .f32⟩
  | 55 => ⟨S8x64x64x16, .f32⟩
  | 56 => ⟨S8x256x64x64, .f32⟩
  | 57 => ⟨S16x256x1x1, .f32⟩
  | 58 => ⟨S16x256, .f32⟩
  | 59 => ⟨S8x64x64x16, .f32⟩
  | 60 => ⟨S8x64x64x16, .f32⟩
  | 61 => ⟨S8x256x64x64, .f32⟩
  | 62 => ⟨S16x256x1x1, .f32⟩
  | 63 => ⟨S16x256, .f32⟩
  | 64 => ⟨S8x64x64x16, .f32⟩
  | 65 => ⟨S8x64x64x16, .f32⟩
  | 66 => ⟨S8x256x64x64, .f32⟩
  | 67 => ⟨S16x256x1x1, .f32⟩
  | 68 => ⟨S16x256, .f32⟩
  | 69 => ⟨S8x64x64x16, .f32⟩
  | 70 => ⟨S8x64x64x16, .f32⟩
  | 71 => ⟨S8x256x64x64, .f32⟩
  | 72 => ⟨S16x256x1x1, .f32⟩
  | 73 => ⟨S16x256, .f32⟩
  | 74 => ⟨S8x64x64x16, .f32⟩
  | 75 => ⟨S8x64x64x16, .f32⟩
  | 76 => ⟨S8x256x64x64, .f32⟩
  | 77 => ⟨S16x256x1x1, .f32⟩
  | 78 => ⟨S16x256, .f32⟩
  | 79 => ⟨S8x64x64x16, .f32⟩
  | 80 => ⟨S8x64x64x16, .f32⟩
  | 81 => ⟨S1x1x1x16, .f32⟩
  | 82 => ⟨S8x64x64x16, .f32⟩
  | 83 => ⟨S8x64x64x16, .f32⟩
  | 84 => ⟨S_, .i32⟩
  | 85 => ⟨S_, .f32⟩
  | 86 => ⟨S8x256x66x66, .f32⟩
  | 87 => ⟨S8x256x64x64, .f32⟩
  | 88 => ⟨S84x256x1x1, .f32⟩
  | 89 => ⟨S84x256, .f32⟩
  | 90 => ⟨S8x64x64x84, .f32⟩
  | 91 => ⟨S_, .f32⟩
  | 92 => ⟨S8x64x64x84, .f32⟩
  | 93 => ⟨S8x64x64x84, .f32⟩
  | 94 => ⟨S8x256x64x64, .f32⟩
  | 95 => ⟨S84x256x1x1, .f32⟩
  | 96 => ⟨S84x256, .f32⟩
  | 97 => ⟨S8x64x64x84, .f32⟩
  | 98 => ⟨S8x64x64x84, .f32⟩
  | 99 => ⟨S8x256x64x64, .f32⟩
  | 100 => ⟨S84x256x1x1, .f32⟩
  | 101 => ⟨S84x256, .f32⟩
  | 102 => ⟨S8x64x64x84, .f32⟩
  | 103 => ⟨S8x64x64x84, .f32⟩
  | 104 => ⟨S8x256x64x64, .f32⟩
  | 105 => ⟨S84x256x1x1, .f32⟩
  | 106 => ⟨S84x256, .f32⟩
  | 107 => ⟨S8x64x64x84, .f32⟩
  | 108 => ⟨S8x64x64x84, .f32⟩
  | 109 => ⟨S8x256x64x64, .f32⟩
  | 110 => ⟨S84x256x1x1, .f32⟩
  | 111 => ⟨S84x256, .f32⟩
  | 112 => ⟨S8x64x64x84, .f32⟩
  | 113 => ⟨S8x64x64x84, .f32⟩
  | 114 => ⟨S8x256x64x64, .f32⟩
  | 115 => ⟨S84x256x1x1, .f32⟩
  | 116 => ⟨S84x256, .f32⟩
  | 117 => ⟨S8x64x64x84, .f32⟩
  | 118 => ⟨S8x64x64x84, .f32⟩
  | 119 => ⟨S8x256x64x64, .f32⟩
  | 120 => ⟨S84x256x1x1, .f32⟩
  | 121 => ⟨S84x256, .f32⟩
  | 122 => ⟨S8x64x64x84, .f32⟩
  | 123 => ⟨S8x64x64x84, .f32⟩
  | 124 => ⟨S8x256x64x64, .f32⟩
  | 125 => ⟨S84x256x1x1, .f32⟩
  | 126 => ⟨S84x256, .f32⟩
  | 127 => ⟨S8x64x64x84, .f32⟩
  | _ => ⟨S8x256x64x64, .f32⟩

abbrev hbmTy0_1 (i : Nat) : BufTy := match i % 128 with
  | 0 => ⟨S8x64x64x84, .f32⟩
  | 1 => ⟨S8x256x64x64, .f32⟩
  | 2 => ⟨S84x256x1x1, .f32⟩
  | 3 => ⟨S84x256, .f32⟩
  | 4 => ⟨S8x64x64x84, .f32⟩
  | 5 => ⟨S8x64x64x84, .f32⟩
  | 6 => ⟨S1x1x1x84, .f32⟩
  | 7 => ⟨S8x64x64x84, .f32⟩
  | 8 => ⟨S8x64x64x84, .f32⟩
  | 9 => ⟨S64x64x4, .f32⟩
  | 10 => ⟨S64x64x4, .f32⟩
  | 11 => ⟨S64x64x4, .f32⟩
  | 12 => ⟨S64x64x4, .f32⟩
  | 13 => ⟨S64x64x4x1, .f32⟩
  | 14 => ⟨S64x64x4x1, .f32⟩
  | 15 => ⟨S64x64x4x1, .f32⟩
  | 16 => ⟨S64x64x4x1, .f32⟩
  | 17 => ⟨S64x64x4x4, .f32⟩
  | 18 => ⟨S16384x4, .f32⟩
  | 19 => ⟨S1x4, .f32⟩
  | 20 => ⟨S1x1x1x4, .f32⟩
  | 21 => ⟨S16384x1x1x4, .f32⟩
  | 22 => ⟨S16384x4, .f32⟩
  | 23 => ⟨S65536, .f32⟩
  | 24 => ⟨S65536, .f32⟩
  | 25 => ⟨S1x65536, .f32⟩
  | 26 => ⟨S1x65536, .f32⟩
  | 27 => ⟨S2x65536, .f32⟩
  | 28 => ⟨S1x2x65536, .f32⟩
  | 29 => ⟨S_, .i32⟩
  | 30 => ⟨S_, .f32⟩
  | 31 => ⟨S8x512x34x34, .f32⟩
  | 32 => ⟨S8x512x32x32, .f32⟩
  | 33 => ⟨S24x512x1x1, .f32⟩
  | 34 => ⟨S24x512, .f32⟩
  | 35 => ⟨S8x32x32x24, .f32⟩
  | 36 => ⟨S_, .f32⟩
  | 37 => ⟨S8x32x32x24, .f32⟩
  | 38 => ⟨S8x32x32x24, .f32⟩
  | 39 => ⟨S8x512x32x32, .f32⟩
  | 40 => ⟨S24x512x1x1, .f32⟩
  | 41 => ⟨S24x512, .f32⟩
  | 42 => ⟨S8x32x32x24, .f32⟩
  | 43 => ⟨S8x32x32x24, .f32⟩
  | 44 => ⟨S8x512x32x32, .f32⟩
  | 45 => ⟨S24x512x1x1, .f32⟩
  | 46 => ⟨S24x512, .f32⟩
  | 47 => ⟨S8x32x32x24, .f32⟩
  | 48 => ⟨S8x32x32x24, .f32⟩
  | 49 => ⟨S8x512x32x32, .f32⟩
  | 50 => ⟨S24x512x1x1, .f32⟩
  | 51 => ⟨S24x512, .f32⟩
  | 52 => ⟨S8x32x32x24, .f32⟩
  | 53 => ⟨S8x32x32x24, .f32⟩
  | 54 => ⟨S8x512x32x32, .f32⟩
  | 55 => ⟨S24x512x1x1, .f32⟩
  | 56 => ⟨S24x512, .f32⟩
  | 57 => ⟨S8x32x32x24, .f32⟩
  | 58 => ⟨S8x32x32x24, .f32⟩
  | 59 => ⟨S8x512x32x32, .f32⟩
  | 60 => ⟨S24x512x1x1, .f32⟩
  | 61 => ⟨S24x512, .f32⟩
  | 62 => ⟨S8x32x32x24, .f32⟩
  | 63 => ⟨S8x32x32x24, .f32⟩
  | 64 => ⟨S8x512x32x32, .f32⟩
  | 65 => ⟨S24x512x1x1, .f32⟩
  | 66 => ⟨S24x512, .f32⟩
  | 67 => ⟨S8x32x32x24, .f32⟩
  | 68 => ⟨S8x32x32x24, .f32⟩
  | 69 => ⟨S8x512x32x32, .f32⟩
  | 70 => ⟨S24x512x1x1, .f32⟩
  | 71 => ⟨S24x512, .f32⟩
  | 72 => ⟨S8x32x32x24, .f32⟩
  | 73 => ⟨S8x32x32x24, .f32⟩
  | 74 => ⟨S8x512x32x32, .f32⟩
  | 75 => ⟨S24x512x1x1, .f32⟩
  | 76 => ⟨S24x512, .f32⟩
  | 77 => ⟨S8x32x32x24, .f32⟩
  | 78 => ⟨S8x32x32x24, .f32⟩
  | 79 => ⟨S1x1x1x24, .f32⟩
  | 80 => ⟨S8x32x32x24, .f32⟩
  | 81 => ⟨S8x32x32x24, .f32⟩
  | 82 => ⟨S_, .i32⟩
  | 83 => ⟨S_, .f32⟩
  | 84 => ⟨S8x512x34x34, .f32⟩
  | 85 => ⟨S8x512x32x32, .f32⟩
  | 86 => ⟨S126x512x1x1, .f32⟩
  | 87 => ⟨S126x512, .f32⟩
  | 88 => ⟨S8x32x32x126, .f32⟩
  | 89 => ⟨S_, .f32⟩
  | 90 => ⟨S8x32x32x126, .f32⟩
  | 91 => ⟨S8x32x32x126, .f32⟩
  | 92 => ⟨S8x512x32x32, .f32⟩
  | 93 => ⟨S126x512x1x1, .f32⟩
  | 94 => ⟨S126x512, .f32⟩
  | 95 => ⟨S8x32x32x126, .f32⟩
  | 96 => ⟨S8x32x32x126, .f32⟩
  | 97 => ⟨S8x512x32x32, .f32⟩
  | 98 => ⟨S126x512x1x1, .f32⟩
  | 99 => ⟨S126x512, .f32⟩
  | 100 => ⟨S8x32x32x126, .f32⟩
  | 101 => ⟨S8x32x32x126, .f32⟩
  | 102 => ⟨S8x512x32x32, .f32⟩
  | 103 => ⟨S126x512x1x1, .f32⟩
  | 104 => ⟨S126x512, .f32⟩
  | 105 => ⟨S8x32x32x126, .f32⟩
  | 106 => ⟨S8x32x32x126, .f32⟩
  | 107 => ⟨S8x512x32x32, .f32⟩
  | 108 => ⟨S126x512x1x1, .f32⟩
  | 109 => ⟨S126x512, .f32⟩
  | 110 => ⟨S8x32x32x126, .f32⟩
  | 111 => ⟨S8x32x32x126, .f32⟩
  | 112 => ⟨S8x512x32x32, .f32⟩
  | 113 => ⟨S126x512x1x1, .f32⟩
  | 114 => ⟨S126x512, .f32⟩
  | 115 => ⟨S8x32x32x126, .f32⟩
  | 116 => ⟨S8x32x32x126, .f32⟩
  | 117 => ⟨S8x512x32x32, .f32⟩
  | 118 => ⟨S126x512x1x1, .f32⟩
  | 119 => ⟨S126x512, .f32⟩
  | 120 => ⟨S8x32x32x126, .f32⟩
  | 121 => ⟨S8x32x32x126, .f32⟩
  | 122 => ⟨S8x512x32x32, .f32⟩
  | 123 => ⟨S126x512x1x1, .f32⟩
  | 124 => ⟨S126x512, .f32⟩
  | 125 => ⟨S8x32x32x126, .f32⟩
  | 126 => ⟨S8x32x32x126, .f32⟩
  | 127 => ⟨S8x512x32x32, .f32⟩
  | _ => ⟨S8x256x64x64, .f32⟩

abbrev hbmTy0_2 (i : Nat) : BufTy := match i % 128 with
  | 0 => ⟨S126x512x1x1, .f32⟩
  | 1 => ⟨S126x512, .f32⟩
  | 2 => ⟨S8x32x32x126, .f32⟩
  | 3 => ⟨S8x32x32x126, .f32⟩
  | 4 => ⟨S1x1x1x126, .f32⟩
  | 5 => ⟨S8x32x32x126, .f32⟩
  | 6 => ⟨S8x32x32x126, .f32⟩
  | 7 => ⟨S32x32x6, .f32⟩
  | 8 => ⟨S32x32x6, .f32⟩
  | 9 => ⟨S32x32x6, .f32⟩
  | 10 => ⟨S32x32x6, .f32⟩
  | 11 => ⟨S32x32x6x1, .f32⟩
  | 12 => ⟨S32x32x6x1, .f32⟩
  | 13 => ⟨S32x32x6x1, .f32⟩
  | 14 => ⟨S32x32x6x1, .f32⟩
  | 15 => ⟨S32x32x6x4, .f32⟩
  | 16 => ⟨S6144x4, .f32⟩
  | 17 => ⟨S1x4, .f32⟩
  | 18 => ⟨S1x1x1x4, .f32⟩
  | 19 => ⟨S6144x1x1x4, .f32⟩
  | 20 => ⟨S6144x4, .f32⟩
  | 21 => ⟨S24576, .f32⟩
  | 22 => ⟨S24576, .f32⟩
  | 23 => ⟨S1x24576, .f32⟩
  | 24 => ⟨S1x24576, .f32⟩
  | 25 => ⟨S2x24576, .f32⟩
  | 26 => ⟨S1x2x24576, .f32⟩
  | 27 => ⟨S_, .i32⟩
  | 28 => ⟨S_, .f32⟩
  | 29 => ⟨S8x256x18x18, .f32⟩
  | 30 => ⟨S8x256x16x16, .f32⟩
  | 31 => ⟨S24x256x1x1, .f32⟩
  | 32 => ⟨S24x256, .f32⟩
  | 33 => ⟨S8x16x16x24, .f32⟩
  | 34 => ⟨S_, .f32⟩
  | 35 => ⟨S8x16x16x24, .f32⟩
  | 36 => ⟨S8x16x16x24, .f32⟩
  | 37 => ⟨S8x256x16x16, .f32⟩
  | 38 => ⟨S24x256x1x1, .f32⟩
  | 39 => ⟨S24x256, .f32⟩
  | 40 => ⟨S8x16x16x24, .f32⟩
  | 41 => ⟨S8x16x16x24, .f32⟩
  | 42 => ⟨S8x256x16x16, .f32⟩
  | 43 => ⟨S24x256x1x1, .f32⟩
  | 44 => ⟨S24x256, .f32⟩
  | 45 => ⟨S8x16x16x24, .f32⟩
  | 46 => ⟨S8x16x16x24, .f32⟩
  | 47 => ⟨S8x256x16x16, .f32⟩
  | 48 => ⟨S24x256x1x1, .f32⟩
  | 49 => ⟨S24x256, .f32⟩
  | 50 => ⟨S8x16x16x24, .f32⟩
  | 51 => ⟨S8x16x16x24, .f32⟩
  | 52 => ⟨S8x256x16x16, .f32⟩
  | 53 => ⟨S24x256x1x1, .f32⟩
  | 54 => ⟨S24x256, .f32⟩
  | 55 => ⟨S8x16x16x24, .f32⟩
  | 56 => ⟨S8x16x16x24, .f32⟩
  | 57 => ⟨S8x256x16x16, .f32⟩
  | 58 => ⟨S24x256x1x1, .f32⟩
  | 59 => ⟨S24x256, .f32⟩
  | 60 => ⟨S8x16x16x24, .f32⟩
  | 61 => ⟨S8x16x16x24, .f32⟩
  | 62 => ⟨S8x256x16x16, .f32⟩
  | 63 => ⟨S24x256x1x1, .f32⟩
  | 64 => ⟨S24x256, .f32⟩
  | 65 => ⟨S8x16x16x24, .f32⟩
  | 66 => ⟨S8x16x16x24, .f32⟩
  | 67 => ⟨S8x256x16x16, .f32⟩
  | 68 => ⟨S24x256x1x1, .f32⟩
  | 69 => ⟨S24x256, .f32⟩
  | 70 => ⟨S8x16x16x24, .f32⟩
  | 71 => ⟨S8x16x16x24, .f32⟩
  | 72 => ⟨S8x256x16x16, .f32⟩
  | 73 => ⟨S24x256x1x1, .f32⟩
  | 74 => ⟨S24x256, .f32⟩
  | 75 => ⟨S8x16x16x24, .f32⟩
  | 76 => ⟨S8x16x16x24, .f32⟩
  | 77 => ⟨S1x1x1x24, .f32⟩
  | 78 => ⟨S8x16x16x24, .f32⟩
  | 79 => ⟨S8x16x16x24, .f32⟩
  | 80 => ⟨S_, .i32⟩
  | 81 => ⟨S_, .f32⟩
  | 82 => ⟨S8x256x18x18, .f32⟩
  | 83 => ⟨S8x256x16x16, .f32⟩
  | 84 => ⟨S126x256x1x1, .f32⟩
  | 85 => ⟨S126x256, .f32⟩
  | 86 => ⟨S8x16x16x126, .f32⟩
  | 87 => ⟨S_, .f32⟩
  | 88 => ⟨S8x16x16x126, .f32⟩
  | 89 => ⟨S8x16x16x126, .f32⟩
  | 90 => ⟨S8x256x16x16, .f32⟩
  | 91 => ⟨S126x256x1x1, .f32⟩
  | 92 => ⟨S126x256, .f32⟩
  | 93 => ⟨S8x16x16x126, .f32⟩
  | 94 => ⟨S8x16x16x126, .f32⟩
  | 95 => ⟨S8x256x16x16, .f32⟩
  | 96 => ⟨S126x256x1x1, .f32⟩
  | 97 => ⟨S126x256, .f32⟩
  | 98 => ⟨S8x16x16x126, .f32⟩
  | 99 => ⟨S8x16x16x126, .f32⟩
  | 100 => ⟨S8x256x16x16, .f32⟩
  | 101 => ⟨S126x256x1x1, .f32⟩
  | 102 => ⟨S126x256, .f32⟩
  | 103 => ⟨S8x16x16x126, .f32⟩
  | 104 => ⟨S8x16x16x126, .f32⟩
  | 105 => ⟨S8x256x16x16, .f32⟩
  | 106 => ⟨S126x256x1x1, .f32⟩
  | 107 => ⟨S126x256, .f32⟩
  | 108 => ⟨S8x16x16x126, .f32⟩
  | 109 => ⟨S8x16x16x126, .f32⟩
  | 110 => ⟨S8x256x16x16, .f32⟩
  | 111 => ⟨S126x256x1x1, .f32⟩
  | 112 => ⟨S126x256, .f32⟩
  | 113 => ⟨S8x16x16x126, .f32⟩
  | 114 => ⟨S8x16x16x126, .f32⟩
  | 115 => ⟨S8x256x16x16, .f32⟩
  | 116 => ⟨S126x256x1x1, .f32⟩
  | 117 => ⟨S126x256, .f32⟩
  | 118 => ⟨S8x16x16x126, .f32⟩
  | 119 => ⟨S8x16x16x126, .f32⟩
  | 120 => ⟨S8x256x16x16, .f32⟩
  | 121 => ⟨S126x256x1x1, .f32⟩
  | 122 => ⟨S126x256, .f32⟩
  | 123 => ⟨S8x16x16x126, .f32⟩
  | 124 => ⟨S8x16x16x126, .f32⟩
  | 125 => ⟨S8x256x16x16, .f32⟩
  | 126 => ⟨S126x256x1x1, .f32⟩
  | 127 => ⟨S126x256, .f32⟩
  | _ => ⟨S8x256x64x64, .f32⟩

abbrev hbmTy0_3 (i : Nat) : BufTy := match i % 128 with
  | 0 => ⟨S8x16x16x126, .f32⟩
  | 1 => ⟨S8x16x16x126, .f32⟩
  | 2 => ⟨S1x1x1x126, .f32⟩
  | 3 => ⟨S8x16x16x126, .f32⟩
  | 4 => ⟨S8x16x16x126, .f32⟩
  | 5 => ⟨S16x16x6, .f32⟩
  | 6 => ⟨S16x16x6, .f32⟩
  | 7 => ⟨S16x16x6, .f32⟩
  | 8 => ⟨S16x16x6, .f32⟩
  | 9 => ⟨S16x16x6x1, .f32⟩
  | 10 => ⟨S16x16x6x1, .f32⟩
  | 11 => ⟨S16x16x6x1, .f32⟩
  | 12 => ⟨S16x16x6x1, .f32⟩
  | 13 => ⟨S16x16x6x4, .f32⟩
  | 14 => ⟨S1536x4, .f32⟩
  | 15 => ⟨S1x4, .f32⟩
  | 16 => ⟨S1x1x1x4, .f32⟩
  | 17 => ⟨S1536x1x1x4, .f32⟩
  | 18 => ⟨S1536x4, .f32⟩
  | 19 => ⟨S6144, .f32⟩
  | 20 => ⟨S6144, .f32⟩
  | 21 => ⟨S1x6144, .f32⟩
  | 22 => ⟨S1x6144, .f32⟩
  | 23 => ⟨S2x6144, .f32⟩
  | 24 => ⟨S1x2x6144, .f32⟩
  | 25 => ⟨S8x65536, .f32⟩
  | 26 => ⟨S8x24576, .f32⟩
  | 27 => ⟨S8x6144, .f32⟩
  | 28 => ⟨S8x96256, .f32⟩
  | 29 => ⟨S8x344064, .f32⟩
  | 30 => ⟨S8x129024, .f32⟩
  | 31 => ⟨S8x32256, .f32⟩
  | 32 => ⟨S8x505344, .f32⟩
  | 33 => ⟨S1x2x96256, .f32⟩
  | 34 => ⟨S8x24064x4, .f32⟩
  | 35 => ⟨S8x24064x21, .f32⟩
  | 36 => ⟨S1x2x24064x4, .f32⟩
  | _ => ⟨S8x256x64x64, .f32⟩

abbrev hbmTy (i : Nat) : BufTy := match i / 128 with
  | 0 => hbmTy0_0 i
  | 1 => hbmTy0_1 i
  | 2 => hbmTy0_2 i
  | 3 => hbmTy0_3 i
  | _ => ⟨S8x256x64x64, .f32⟩

abbrev bufTy : (tb : Table) → Fin (tcTables nBuf tb) → BufTy
  | .hbm, ⟨i, _⟩ => hbmTy i
  | _, _ => ⟨S8x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_cst_0 : Ref sig .tc := ⟨.hbm, 17, rfl⟩
abbrev main_cst_1 : Ref sig .tc := ⟨.hbm, 18, rfl⟩
abbrev main_cst_2 : Ref sig .tc := ⟨.hbm, 19, rfl⟩
abbrev main_cst_3 : Ref sig .tc := ⟨.hbm, 20, rfl⟩
abbrev main_cst_4 : Ref sig .tc := ⟨.hbm, 21, rfl⟩
abbrev main_cst_5 : Ref sig .tc := ⟨.hbm, 22, rfl⟩
abbrev main_cst_6 : Ref sig .tc := ⟨.hbm, 23, rfl⟩
abbrev main_cst_7 : Ref sig .tc := ⟨.hbm, 24, rfl⟩
abbrev main_cst_8 : Ref sig .tc := ⟨.hbm, 25, rfl⟩
abbrev main_cst_9 : Ref sig .tc := ⟨.hbm, 26, rfl⟩
abbrev main_cst_10 : Ref sig .tc := ⟨.hbm, 27, rfl⟩
abbrev main_cst_11 : Ref sig .tc := ⟨.hbm, 28, rfl⟩
abbrev main_cst_12 : Ref sig .tc := ⟨.hbm, 29, rfl⟩
abbrev main_cst_13 : Ref sig .tc := ⟨.hbm, 30, rfl⟩
abbrev main_c : Ref sig .tc := ⟨.hbm, 31, rfl⟩
abbrev main_call0_v0 : Ref sig .tc := ⟨.hbm, 32, rfl⟩
abbrev main_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_cst_14 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_c_15 : Ref sig .tc := ⟨.hbm, 84, rfl⟩
abbrev main_call1_v0 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_16 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_c_17 : Ref sig .tc := ⟨.hbm, 157, rfl⟩
abbrev main_call2_v0 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_cst_18 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_c_19 : Ref sig .tc := ⟨.hbm, 210, rfl⟩
abbrev main_call3_v0 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_cst_20 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_v221 : Ref sig .tc := ⟨.hbm, 264, rfl⟩
abbrev main_v222 : Ref sig .tc := ⟨.hbm, 265, rfl⟩
abbrev main_v223 : Ref sig .tc := ⟨.hbm, 266, rfl⟩
abbrev main_v224 : Ref sig .tc := ⟨.hbm, 267, rfl⟩
abbrev main_v225 : Ref sig .tc := ⟨.hbm, 268, rfl⟩
abbrev main_v226 : Ref sig .tc := ⟨.hbm, 269, rfl⟩
abbrev main_v227 : Ref sig .tc := ⟨.hbm, 270, rfl⟩
abbrev main_v228 : Ref sig .tc := ⟨.hbm, 271, rfl⟩
abbrev main_v229 : Ref sig .tc := ⟨.hbm, 272, rfl⟩
abbrev main_v230 : Ref sig .tc := ⟨.hbm, 273, rfl⟩
abbrev main_v231 : Ref sig .tc := ⟨.hbm, 274, rfl⟩
abbrev main_v232 : Ref sig .tc := ⟨.hbm, 275, rfl⟩
abbrev main_v233 : Ref sig .tc := ⟨.hbm, 276, rfl⟩
abbrev main_v234 : Ref sig .tc := ⟨.hbm, 277, rfl⟩
abbrev main_v235 : Ref sig .tc := ⟨.hbm, 278, rfl⟩
abbrev main_v236 : Ref sig .tc := ⟨.hbm, 279, rfl⟩
abbrev main_v237 : Ref sig .tc := ⟨.hbm, 280, rfl⟩
abbrev main_v238 : Ref sig .tc := ⟨.hbm, 281, rfl⟩
abbrev main_v239 : Ref sig .tc := ⟨.hbm, 282, rfl⟩
abbrev main_c_21 : Ref sig .tc := ⟨.hbm, 283, rfl⟩
abbrev main_call4_v0 : Ref sig .tc := ⟨.hbm, 284, rfl⟩
abbrev main_v240 : Ref sig .tc := ⟨.hbm, 285, rfl⟩
abbrev main_v241 : Ref sig .tc := ⟨.hbm, 286, rfl⟩
abbrev main_v242 : Ref sig .tc := ⟨.hbm, 287, rfl⟩
abbrev main_v243 : Ref sig .tc := ⟨.hbm, 288, rfl⟩
abbrev main_v244 : Ref sig .tc := ⟨.hbm, 289, rfl⟩
abbrev main_cst_22 : Ref sig .tc := ⟨.hbm, 290, rfl⟩
abbrev main_v245 : Ref sig .tc := ⟨.hbm, 291, rfl⟩
abbrev main_v246 : Ref sig .tc := ⟨.hbm, 292, rfl⟩
abbrev main_v247 : Ref sig .tc := ⟨.hbm, 293, rfl⟩
abbrev main_v248 : Ref sig .tc := ⟨.hbm, 294, rfl⟩
abbrev main_v249 : Ref sig .tc := ⟨.hbm, 295, rfl⟩
abbrev main_v250 : Ref sig .tc := ⟨.hbm, 296, rfl⟩
abbrev main_v251 : Ref sig .tc := ⟨.hbm, 297, rfl⟩
abbrev main_v252 : Ref sig .tc := ⟨.hbm, 298, rfl⟩
abbrev main_v253 : Ref sig .tc := ⟨.hbm, 299, rfl⟩
abbrev main_v254 : Ref sig .tc := ⟨.hbm, 300, rfl⟩
abbrev main_v255 : Ref sig .tc := ⟨.hbm, 301, rfl⟩
abbrev main_v256 : Ref sig .tc := ⟨.hbm, 302, rfl⟩
abbrev main_v257 : Ref sig .tc := ⟨.hbm, 303, rfl⟩
abbrev main_v258 : Ref sig .tc := ⟨.hbm, 304, rfl⟩
abbrev main_v259 : Ref sig .tc := ⟨.hbm, 305, rfl⟩
abbrev main_v260 : Ref sig .tc := ⟨.hbm, 306, rfl⟩
abbrev main_v261 : Ref sig .tc := ⟨.hbm, 307, rfl⟩
abbrev main_v262 : Ref sig .tc := ⟨.hbm, 308, rfl⟩
abbrev main_v263 : Ref sig .tc := ⟨.hbm, 309, rfl⟩
abbrev main_v264 : Ref sig .tc := ⟨.hbm, 310, rfl⟩
abbrev main_v265 : Ref sig .tc := ⟨.hbm, 311, rfl⟩
abbrev main_v266 : Ref sig .tc := ⟨.hbm, 312, rfl⟩
abbrev main_v267 : Ref sig .tc := ⟨.hbm, 313, rfl⟩
abbrev main_v268 : Ref sig .tc := ⟨.hbm, 314, rfl⟩
abbrev main_v269 : Ref sig .tc := ⟨.hbm, 315, rfl⟩
abbrev main_v270 : Ref sig .tc := ⟨.hbm, 316, rfl⟩
abbrev main_v271 : Ref sig .tc := ⟨.hbm, 317, rfl⟩
abbrev main_v272 : Ref sig .tc := ⟨.hbm, 318, rfl⟩
abbrev main_v273 : Ref sig .tc := ⟨.hbm, 319, rfl⟩
abbrev main_v274 : Ref sig .tc := ⟨.hbm, 320, rfl⟩
abbrev main_v275 : Ref sig .tc := ⟨.hbm, 321, rfl⟩
abbrev main_v276 : Ref sig .tc := ⟨.hbm, 322, rfl⟩
abbrev main_v277 : Ref sig .tc := ⟨.hbm, 323, rfl⟩
abbrev main_v278 : Ref sig .tc := ⟨.hbm, 324, rfl⟩
abbrev main_v279 : Ref sig .tc := ⟨.hbm, 325, rfl⟩
abbrev main_v280 : Ref sig .tc := ⟨.hbm, 326, rfl⟩
abbrev main_v281 : Ref sig .tc := ⟨.hbm, 327, rfl⟩
abbrev main_v282 : Ref sig .tc := ⟨.hbm, 328, rfl⟩
abbrev main_v283 : Ref sig .tc := ⟨.hbm, 329, rfl⟩
abbrev main_v284 : Ref sig .tc := ⟨.hbm, 330, rfl⟩
abbrev main_v285 : Ref sig .tc := ⟨.hbm, 331, rfl⟩
abbrev main_v286 : Ref sig .tc := ⟨.hbm, 332, rfl⟩
abbrev main_v287 : Ref sig .tc := ⟨.hbm, 333, rfl⟩
abbrev main_v288 : Ref sig .tc := ⟨.hbm, 334, rfl⟩
abbrev main_v289 : Ref sig .tc := ⟨.hbm, 335, rfl⟩
abbrev main_c_23 : Ref sig .tc := ⟨.hbm, 336, rfl⟩
abbrev main_call5_v0 : Ref sig .tc := ⟨.hbm, 337, rfl⟩
abbrev main_v290 : Ref sig .tc := ⟨.hbm, 338, rfl⟩
abbrev main_v291 : Ref sig .tc := ⟨.hbm, 339, rfl⟩
abbrev main_v292 : Ref sig .tc := ⟨.hbm, 340, rfl⟩
abbrev main_v293 : Ref sig .tc := ⟨.hbm, 341, rfl⟩
abbrev main_v294 : Ref sig .tc := ⟨.hbm, 342, rfl⟩
abbrev main_cst_24 : Ref sig .tc := ⟨.hbm, 343, rfl⟩
abbrev main_v295 : Ref sig .tc := ⟨.hbm, 344, rfl⟩
abbrev main_v296 : Ref sig .tc := ⟨.hbm, 345, rfl⟩
abbrev main_v297 : Ref sig .tc := ⟨.hbm, 346, rfl⟩
abbrev main_v298 : Ref sig .tc := ⟨.hbm, 347, rfl⟩
abbrev main_v299 : Ref sig .tc := ⟨.hbm, 348, rfl⟩
abbrev main_v300 : Ref sig .tc := ⟨.hbm, 349, rfl⟩
abbrev main_v301 : Ref sig .tc := ⟨.hbm, 350, rfl⟩
abbrev main_v302 : Ref sig .tc := ⟨.hbm, 351, rfl⟩
abbrev main_v303 : Ref sig .tc := ⟨.hbm, 352, rfl⟩
abbrev main_v304 : Ref sig .tc := ⟨.hbm, 353, rfl⟩
abbrev main_v305 : Ref sig .tc := ⟨.hbm, 354, rfl⟩
abbrev main_v306 : Ref sig .tc := ⟨.hbm, 355, rfl⟩
abbrev main_v307 : Ref sig .tc := ⟨.hbm, 356, rfl⟩
abbrev main_v308 : Ref sig .tc := ⟨.hbm, 357, rfl⟩
abbrev main_v309 : Ref sig .tc := ⟨.hbm, 358, rfl⟩
abbrev main_v310 : Ref sig .tc := ⟨.hbm, 359, rfl⟩
abbrev main_v311 : Ref sig .tc := ⟨.hbm, 360, rfl⟩
abbrev main_v312 : Ref sig .tc := ⟨.hbm, 361, rfl⟩
abbrev main_v313 : Ref sig .tc := ⟨.hbm, 362, rfl⟩
abbrev main_v314 : Ref sig .tc := ⟨.hbm, 363, rfl⟩
abbrev main_v315 : Ref sig .tc := ⟨.hbm, 364, rfl⟩
abbrev main_v316 : Ref sig .tc := ⟨.hbm, 365, rfl⟩
abbrev main_v317 : Ref sig .tc := ⟨.hbm, 366, rfl⟩
abbrev main_v318 : Ref sig .tc := ⟨.hbm, 367, rfl⟩
abbrev main_v319 : Ref sig .tc := ⟨.hbm, 368, rfl⟩
abbrev main_v320 : Ref sig .tc := ⟨.hbm, 369, rfl⟩
abbrev main_v321 : Ref sig .tc := ⟨.hbm, 370, rfl⟩
abbrev main_v322 : Ref sig .tc := ⟨.hbm, 371, rfl⟩
abbrev main_v323 : Ref sig .tc := ⟨.hbm, 372, rfl⟩
abbrev main_v324 : Ref sig .tc := ⟨.hbm, 373, rfl⟩
abbrev main_v325 : Ref sig .tc := ⟨.hbm, 374, rfl⟩
abbrev main_v326 : Ref sig .tc := ⟨.hbm, 375, rfl⟩
abbrev main_v327 : Ref sig .tc := ⟨.hbm, 376, rfl⟩
abbrev main_v328 : Ref sig .tc := ⟨.hbm, 377, rfl⟩
abbrev main_v329 : Ref sig .tc := ⟨.hbm, 378, rfl⟩
abbrev main_v330 : Ref sig .tc := ⟨.hbm, 379, rfl⟩
abbrev main_v331 : Ref sig .tc := ⟨.hbm, 380, rfl⟩
abbrev main_v332 : Ref sig .tc := ⟨.hbm, 381, rfl⟩
abbrev main_v333 : Ref sig .tc := ⟨.hbm, 382, rfl⟩
abbrev main_v334 : Ref sig .tc := ⟨.hbm, 383, rfl⟩
abbrev main_v335 : Ref sig .tc := ⟨.hbm, 384, rfl⟩
abbrev main_v336 : Ref sig .tc := ⟨.hbm, 385, rfl⟩
abbrev main_v337 : Ref sig .tc := ⟨.hbm, 386, rfl⟩
abbrev main_v338 : Ref sig .tc := ⟨.hbm, 387, rfl⟩
abbrev main_v339 : Ref sig .tc := ⟨.hbm, 388, rfl⟩
abbrev main_v340 : Ref sig .tc := ⟨.hbm, 389, rfl⟩
abbrev main_v341 : Ref sig .tc := ⟨.hbm, 390, rfl⟩
abbrev main_v342 : Ref sig .tc := ⟨.hbm, 391, rfl⟩
abbrev main_v343 : Ref sig .tc := ⟨.hbm, 392, rfl⟩
abbrev main_v344 : Ref sig .tc := ⟨.hbm, 393, rfl⟩
abbrev main_v345 : Ref sig .tc := ⟨.hbm, 394, rfl⟩
abbrev main_v346 : Ref sig .tc := ⟨.hbm, 395, rfl⟩
abbrev main_v347 : Ref sig .tc := ⟨.hbm, 396, rfl⟩
abbrev main_v348 : Ref sig .tc := ⟨.hbm, 397, rfl⟩
abbrev main_v349 : Ref sig .tc := ⟨.hbm, 398, rfl⟩
abbrev main_v350 : Ref sig .tc := ⟨.hbm, 399, rfl⟩
abbrev main_v351 : Ref sig .tc := ⟨.hbm, 400, rfl⟩
abbrev main_v352 : Ref sig .tc := ⟨.hbm, 401, rfl⟩
abbrev main_v353 : Ref sig .tc := ⟨.hbm, 402, rfl⟩
abbrev main_v354 : Ref sig .tc := ⟨.hbm, 403, rfl⟩
abbrev main_v355 : Ref sig .tc := ⟨.hbm, 404, rfl⟩
abbrev main_v356 : Ref sig .tc := ⟨.hbm, 405, rfl⟩
abbrev main_v357 : Ref sig .tc := ⟨.hbm, 406, rfl⟩
abbrev main_v358 : Ref sig .tc := ⟨.hbm, 407, rfl⟩
abbrev main_v359 : Ref sig .tc := ⟨.hbm, 408, rfl⟩
abbrev main_v360 : Ref sig .tc := ⟨.hbm, 409, rfl⟩
abbrev main_v361 : Ref sig .tc := ⟨.hbm, 410, rfl⟩
abbrev main_v362 : Ref sig .tc := ⟨.hbm, 411, rfl⟩
abbrev main_v363 : Ref sig .tc := ⟨.hbm, 412, rfl⟩
abbrev main_v364 : Ref sig .tc := ⟨.hbm, 413, rfl⟩
abbrev main_v365 : Ref sig .tc := ⟨.hbm, 414, rfl⟩
abbrev main_v366 : Ref sig .tc := ⟨.hbm, 415, rfl⟩
abbrev main_v367 : Ref sig .tc := ⟨.hbm, 416, rfl⟩
abbrev main_v368 : Ref sig .tc := ⟨.hbm, 417, rfl⟩
abbrev main_v369 : Ref sig .tc := ⟨.hbm, 418, rfl⟩
abbrev main_v370 : Ref sig .tc := ⟨.hbm, 419, rfl⟩
abbrev main_v371 : Ref sig .tc := ⟨.hbm, 420, rfl⟩

abbrev nD : Nat := 1
abbrev τ : Topo := Topo.v7x

variable {F : FTy → Type} [FloatOps F]
-- ==== Proof.Conv.lean ====
/- What a 3 × 3 convolution with zero padding is, over the extended reals, and why nine shifted copies of a row-major
   picture compute it. Nothing here names a program. -/
module

public import Idealize.ShloMosaic.Lib.Pointwise

@[expose] public section

noncomputable section

namespace Cert.Conv

/-- An `n × n` picture with a border of zeros one pixel wide, read at row `i` and column `j` counted from the border. -/
def edge {n : ℕ} (x : Fin n → Fin n → EReal) (i j : ℕ) : EReal :=
  if h : (1 ≤ i ∧ i < n + 1) ∧ (1 ≤ j ∧ j < n + 1) then x ⟨i - 1, by omega⟩ ⟨j - 1, by omega⟩ else 0

/-- One output pixel: nine taps, each a sum over the channels, and the bias. -/
def conv {C n : ℕ} (x : Fin C → Fin n → Fin n → EReal) (w : Fin 3 → Fin 3 → Fin C → EReal) (b : EReal)
    (i j : ℕ) : EReal :=
  (∑ kh : Fin 3, ∑ kw : Fin 3, ∑ c, edge (x c) (i + kh) (j + kw) * w kh kw c) + b

/-- The row and the column of a pixel of a row-major picture. -/
theorem row_lt {n N : ℕ} (hN : N = n * n) (p : Fin N) : p.val / n < n :=
  Nat.div_lt_of_lt_mul (hN ▸ p.isLt)

theorem col_lt {n N : ℕ} (hN : N = n * n) (p : Fin N) : p.val % n < n :=
  Nat.mod_lt _ (Nat.pos_of_ne_zero fun h => by subst h; subst hN; exact absurd p.isLt (by simp))

/-- `g` is the row-major picture `x` prepared for the taps of kernel column `kw`: the pixels that a shift by `kw - 1`
    columns would carry around the end of a row are zeroed. -/
def Prepared {n N : ℕ} (hN : N = n * n) (x : Fin n → Fin n → EReal) (kw : ℕ) (g : Fin N → EReal) : Prop :=
  ∀ q : Fin N, g q = if (kw = 0 ∧ q.val % n = n - 1) ∨ (kw = 2 ∧ q.val % n = 0) then 0
    else x ⟨q.val / n, row_lt hN q⟩ ⟨q.val % n, col_lt hN q⟩

section Shifts

variable {n N : ℕ} (hn : n = 64 ∨ n = 32 ∨ n = 16) (hN : N = n * n)

include hn hN in
/-- A tap that falls before the first pixel or after the last one reads the border. -/
theorem edge_off (x : Fin n → Fin n → EReal) (p : Fin N) {kh kw : ℕ} (hh : kh < 3) (hw : kw < 3)
    (e : p.val + kh * n + kw < n + 1 ∨ N + n + 1 ≤ p.val + kh * n + kw) :
    edge x (p.val / n + kh) (p.val % n + kw) = 0 := by
  have hp := p.isLt
  refine dif_neg fun h => ?_
  rcases hn with rfl | rfl | rfl <;> interval_cases kh <;> omega

variable {x : Fin n → Fin n → EReal} {kw : ℕ} {g : Fin N → EReal} (hg : Prepared hN x kw g) (p : Fin N)
include hn hg

/-- A tap that falls on pixel `q` of the prepared picture reads the bordered picture where the tap says. -/
theorem edge_on {kh : ℕ} (hh : kh < 3) (hw : kw < 3) (q : ℕ) (hq : q < N)
    (e : q + n + 1 = p.val + kh * n + kw) : g ⟨q, hq⟩ = edge x (p.val / n + kh) (p.val % n + kw) := by
  have hp := p.isLt
  have key : (kw = 0 ∧ q % n = n - 1 ∨ kw = 2 ∧ q % n = 0 → ¬(1 ≤ p.val % n + kw ∧ p.val % n + kw < n + 1)) ∧
      (¬(kw = 0 ∧ q % n = n - 1 ∨ kw = 2 ∧ q % n = 0) →
        q / n = p.val / n + kh - 1 ∧ q % n = p.val % n + kw - 1 ∧
        (1 ≤ p.val / n + kh ∧ p.val / n + kh < n + 1) ∧ (1 ≤ p.val % n + kw ∧ p.val % n + kw < n + 1)) := by
    rcases hn with rfl | rfl | rfl <;> interval_cases kw <;> interval_cases kh <;> omega
  rw [hg]
  unfold edge
  by_cases h : kw = 0 ∧ q % n = n - 1 ∨ kw = 2 ∧ q % n = 0
  · rw [if_pos h, dif_neg fun h' => key.1 h h'.2]
  · obtain ⟨er, ec, h'⟩ := key.2 h
    rw [if_neg h, dif_pos h']
    simp only [er, ec]

/-- A tap that looks back `s` pixels: the prepared picture moved right, zeros in front. -/
theorem shift_back {kh : ℕ} (s : ℕ) (hh : kh < 3) (hw : kw < 3) (e : s + kh * n + kw = n + 1) :
    (if h : p.val < s then (0 : EReal) else g ⟨p.val - s, by omega⟩) = edge x (p.val / n + kh) (p.val % n + kw) := by
  split_ifs with h
  · exact (edge_off hn hN x p hh hw (by omega)).symm
  · exact edge_on hn hN hg p hh hw _ _ (by omega)

/-- A tap that looks ahead `s` pixels: the prepared picture moved left, zeros behind the `l` pixels left. -/
theorem shift_ahead {kh : ℕ} (s l : ℕ) (hh : kh < 3) (hw : kw < 3) (e : s + (n + 1) = kh * n + kw) (hl : l + s = N) :
    (if h : p.val < l then g ⟨s + p.val, by omega⟩ else (0 : EReal)) = edge x (p.val / n + kh) (p.val % n + kw) := by
  split_ifs with h
  · exact edge_on hn hN hg p hh hw _ _ (by omega)
  · exact (edge_off hn hN x p hh hw (by omega)).symm

end Shifts

/-- Nine shifted copies of the prepared pictures, each contracted with its slice of the weights over the channels and
    added to the bias in turn, are the convolution. `g kw` is the picture prepared for kernel column `kw`. -/
theorem nine_taps {C n N : ℕ} (hn : n = 64 ∨ n = 32 ∨ n = 16) (hN : N = n * n)
    (x : Fin C → Fin n → Fin n → EReal) (w : Fin 9 → Fin C → EReal) (b : EReal) (g : Fin 3 → Fin C → Fin N → EReal)
    (hg : ∀ kw c, Prepared hN (x c) kw.val (g kw c)) (p : Fin N) (s₀ s₁ s₂ l₁ l₆ l₇ l₈ : ℕ)
    (e₀ : s₀ = n + 1) (e₁ : s₁ = n) (e₂ : s₂ + 1 = n) (f₁ : l₁ + 1 = N) (f₆ : l₆ + s₂ = N) (f₇ : l₇ + s₁ = N)
    (f₈ : l₈ + s₀ = N) :
    b + ∑ c, (if h : p.val < s₀ then 0 else g 0 c ⟨p.val - s₀, by omega⟩) * w 0 c
      + ∑ c, (if h : p.val < s₁ then 0 else g 1 c ⟨p.val - s₁, by omega⟩) * w 1 c
      + ∑ c, (if h : p.val < s₂ then 0 else g 2 c ⟨p.val - s₂, by omega⟩) * w 2 c
      + ∑ c, (if h : p.val < 1 then 0 else g 0 c ⟨p.val - 1, by omega⟩) * w 3 c
      + ∑ c, g 1 c p * w 4 c
      + ∑ c, (if h : p.val < l₁ then g 2 c ⟨1 + p.val, by omega⟩ else 0) * w 5 c
      + ∑ c, (if h : p.val < l₆ then g 0 c ⟨s₂ + p.val, by omega⟩ else 0) * w 6 c
      + ∑ c, (if h : p.val < l₇ then g 1 c ⟨s₁ + p.val, by omega⟩ else 0) * w 7 c
      + ∑ c, (if h : p.val < l₈ then g 2 c ⟨s₀ + p.val, by omega⟩ else 0) * w 8 c
    = conv x (fun kh kw c => w ⟨3 * kh.val + kw.val, by omega⟩ c) b (p.val / n) (p.val % n) := by
  have t₀ := fun c => shift_back hn hN (hg 0 c) p (kh := 0) s₀ (by decide) (by decide) (by simp; omega)
  have t₁ := fun c => shift_back hn hN (hg 1 c) p (kh := 0) s₁ (by decide) (by decide) (by simp; omega)
  have t₂ := fun c => shift_back hn hN (hg 2 c) p (kh := 0) s₂ (by decide) (by decide) (by simp; omega)
  have t₃ := fun c => shift_back hn hN (hg 0 c) p (kh := 1) 1 (by decide) (by decide) (by simp; omega)
  have t₄ := fun c => edge_on hn hN (hg 1 c) p (kh := 1) (by decide) (by decide) p.val p.isLt (by simp)
  have t₅ := fun c => shift_ahead hn hN (hg 2 c) p (kh := 1) 1 l₁ (by decide) (by decide) (by simp; omega) f₁
  have t₆ := fun c => shift_ahead hn hN (hg 0 c) p (kh := 2) s₂ l₆ (by decide) (by decide) (by simp; omega) f₆
  have t₇ := fun c => shift_ahead hn hN (hg 1 c) p (kh := 2) s₁ l₇ (by decide) (by decide) (by simp; omega) f₇
  have t₈ := fun c => shift_ahead hn hN (hg 2 c) p (kh := 2) s₀ l₈ (by decide) (by decide) (by simp; omega) f₈
  simp only [t₀, t₁, t₂, t₃, t₄, t₅, t₆, t₇, t₈]
  unfold conv
  simp only [Fin.sum_univ_three]
  rw [add_comm _ b]
  simp only [← add_assoc]
  rfl

section Arrays

open Idealize.ShloMosaic

/-- One pixel of a head: image `b` of a batch of pictures convolved with output channel `o` of a head's weights. -/
def convAt {B C n O : ℕ} (x : (⟨4, ![B, C, n, n]⟩ : Shape).Idx → EReal) (w : (⟨4, ![O, C, 3, 3]⟩ : Shape).Idx → EReal)
    (bias : (⟨1, ![O]⟩ : Shape).Idx → EReal) (b : Fin B) (i j : ℕ) (o : Fin O) : EReal :=
  conv (fun c r s => x (ix4 b c r s)) (fun kh kw c => w (ix4 o c kh kw)) (bias (ix1 o)) i j

/-- Two heads over the same pictures, the channels of the first before those of the second, each picture row-major. -/
def twoHeads {B C n N O Oc Ol : ℕ} (hO : O = Oc + Ol) (x : (⟨4, ![B, C, n, n]⟩ : Shape).Idx → EReal)
    (wc : (⟨4, ![Oc, C, 3, 3]⟩ : Shape).Idx → EReal) (bc : (⟨1, ![Oc]⟩ : Shape).Idx → EReal)
    (wl : (⟨4, ![Ol, C, 3, 3]⟩ : Shape).Idx → EReal) (bl : (⟨1, ![Ol]⟩ : Shape).Idx → EReal)
    (b : Fin B) (p : Fin N) (o : Fin O) : EReal :=
  if h : o.val < Oc then convAt x wc bc b (p.val / n) (p.val % n) ⟨o.val, h⟩
  else convAt x wl bl b (p.val / n) (p.val % n) ⟨o.val - Oc, by omega⟩

/-- Stacking the weights and the biases of the two heads and convolving once gives both. -/
theorem conv_stacked {B C n N O Oc Ol : ℕ} (hO : O = Oc + Ol) (x : (⟨4, ![B, C, n, n]⟩ : Shape).Idx → EReal)
    (wc : (⟨4, ![Oc, C, 3, 3]⟩ : Shape).Idx → EReal) (bc : (⟨1, ![Oc]⟩ : Shape).Idx → EReal)
    (wl : (⟨4, ![Ol, C, 3, 3]⟩ : Shape).Idx → EReal) (bl : (⟨1, ![Ol]⟩ : Shape).Idx → EReal)
    (b : Fin B) (p : Fin N) (o : Fin O) (w : Fin 3 → Fin 3 → Fin C → EReal) (bias : EReal)
    (hw : ∀ kh kw c, w kh kw c = if h : o.val < Oc then wc (ix4 ⟨o.val, h⟩ c kh kw)
      else wl (ix4 ⟨o.val - Oc, by omega⟩ c kh kw))
    (hb : bias = if h : o.val < Oc then bc (ix1 ⟨o.val, h⟩) else bl (ix1 ⟨o.val - Oc, by omega⟩)) :
    conv (fun c r s => x (ix4 b c r s)) w bias (p.val / n) (p.val % n) = twoHeads hO x wc bc wl bl b p o := by
  unfold twoHeads convAt
  have hw' : w = _ := funext fun kh => funext fun kw => funext fun c => hw kh kw c
  rw [hw', hb]
  by_cases h : o.val < Oc
  · simp only [dif_pos h]
  · simp only [dif_neg h]

end Arrays

end Cert.Conv

end
-- ==== Proof.Heads.lean ====
/- One head of the reference — the picture padded, nine slices of it contracted with nine slices of the weights and
   added up in turn, and the bias — and why each of its pixels is the convolution. The sizes are free. -/
module

public import proofs.«01_k».proof.Proof.Conv
public import Idealize.ShloMosaic.Lib.Pipeline.ValueKit.Point

@[expose] public section

noncomputable section

namespace Cert.Conv

open Idealize.ShloMosaic Idealize.ShloMosaic.StableHlo

variable {B C n N O : ℕ}

abbrev Pics (B C n : ℕ) : Shape := ⟨4, ![B, C, n, n]⟩
abbrev Wts (O C k : ℕ) : Shape := ⟨4, ![O, C, k, k]⟩
abbrev Mat (O C : ℕ) : Shape := ⟨2, ![O, C]⟩
abbrev Out (B n O : ℕ) : Shape := ⟨4, ![B, n, n, O]⟩

/-- A picture with a border of zeros around it, as the host pads it. -/
theorem pad_at (hN : N = n + 2) (x : (Pics B C n).Idx → EReal) {u : Shape} (z : u.Idx → EReal) (hz : ∀ i, z i = 0)
    (h : (Pics B C n).Pads ![0, 0, 1, 1] ![0, 0, 1, 1] ![0, 0, 0, 0] (Pics B C N)) (hu : 0 < u.numel)
    (b : Fin B) (c : Fin C) (i j : Fin N) :
    pad (Pics B C N) ![0, 0, 1, 1] ![0, 0, 1, 1] ![0, 0, 0, 0] x z h hu (ix4 b c i j)
      = edge (fun r s => x (ix4 b c r s)) i.val j.val := by
  unfold pad edge
  simp only [hz]
  by_cases hin : (1 ≤ i.val ∧ i.val < n + 1) ∧ (1 ≤ j.val ∧ j.val < n + 1)
  · rw [dif_pos hin, dif_pos]
    · congr 1
      funext a
      fin_cases a <;> simp [ix4]
    · have hb := b.isLt
      have hc := c.isLt
      intro a
      fin_cases a <;> simp [ix4] <;> omega
  · rw [dif_neg hin, dif_neg]
    intro h'
    have h2 := h' 2
    have h3 := h' 3
    simp [ix4] at h2 h3
    omega

section Head

variable (hN : N = n + 2) (d : DotDims (Pics B C n) (Mat O C) (Out B n O))

theorem pic_slices {kh kw : ℕ} (hN : N = n + 2) (hh : kh < 3) (hw : kw < 3) :
    (Pics B C N).Slices ![0, 0, kh, kw] (Pics B C n) :=
  ⟨rfl, fun a => by fin_cases a <;> simp <;> omega⟩

theorem wt_slices {kh kw : ℕ} (hh : kh < 3) (hw : kw < 3) : (Wts O C 3).Slices ![0, 0, kh, kw] (Wts O C 1) :=
  ⟨rfl, fun a => by fin_cases a <;> simp <;> omega⟩

/-- One tap: the slice of the padded picture at the tap, contracted with the weights' slice over the channels. -/
def tap (X : (Pics B C N).Idx → EReal) (w : (Wts O C 3).Idx → EReal) (hc : (Wts O C 1).ShapeCasts (Mat O C)) (kh kw : ℕ)
    (hh : kh < 3) (hw : kw < 3) : (Out B n O).Idx → EReal :=
  Host.dotGeneral (F := Ideal) (φ₁ := .f32) (φ₂ := .f32) d none
    (extractStridedSlice (Pics B C n) ![0, 0, kh, kw] X (pic_slices hN hh hw))
    (shapeCast (Mat O C) (extractStridedSlice (Wts O C 1) ![0, 0, kh, kw] w (wt_slices hh hw)) hc)

/-- One head: nine taps added to zero in turn, and the bias spread over the pixels. -/
def head (X : (Pics B C N).Idx → EReal) (w : (Wts O C 3).Idx → EReal) (bias : (Out B n O).Idx → EReal)
    (zero : (Out B n O).Idx → EReal) (hc : (Wts O C 1).ShapeCasts (Mat O C)) : (Out B n O).Idx → EReal :=
  addf (F := Ideal) (φ := .f32) (addf (F := Ideal) (φ := .f32) (addf (F := Ideal) (φ := .f32)
    (addf (F := Ideal) (φ := .f32) (addf (F := Ideal) (φ := .f32) (addf (F := Ideal) (φ := .f32)
    (addf (F := Ideal) (φ := .f32) (addf (F := Ideal) (φ := .f32) (addf (F := Ideal) (φ := .f32)
    (addf (F := Ideal) (φ := .f32) zero
      (tap hN d X w hc 0 0 (by decide) (by decide))) (tap hN d X w hc 0 1 (by decide) (by decide)))
      (tap hN d X w hc 0 2 (by decide) (by decide))) (tap hN d X w hc 1 0 (by decide) (by decide)))
      (tap hN d X w hc 1 1 (by decide) (by decide))) (tap hN d X w hc 1 2 (by decide) (by decide)))
      (tap hN d X w hc 2 0 (by decide) (by decide))) (tap hN d X w hc 2 1 (by decide) (by decide)))
      (tap hN d X w hc 2 2 (by decide) (by decide))) bias

variable (x : (Pics B C n).Idx → EReal) (X : (Pics B C N).Idx → EReal) (w : (Wts O C 3).Idx → EReal)
  (hc : (Wts O C 1).ShapeCasts (Mat O C))
  (hX : ∀ b c (i j : Fin N), X (ix4 b c i j) = edge (fun r s => x (ix4 b c r s)) i.val j.val)
  (hd : ∀ (l : (Pics B C n).Idx → EReal) (r : (Mat O C).Idx → EReal) b i j o,
    Host.dotGeneral (F := Ideal) (φ₁ := .f32) (φ₂ := .f32) d none l r (ix4 b i j o) = ∑ c, l (ix4 b c i j) * r (ix2 o c))
  (b : Fin B) (i j : Fin n) (o : Fin O)

include hX hd in
/-- A tap at a pixel: the bordered picture, moved by the tap, times the weights, summed over the channels. -/
theorem tap_at (kh kw : ℕ) (hh : kh < 3) (hw : kw < 3) :
    tap hN d X w hc kh kw hh hw (ix4 b i j o)
      = ∑ c, edge (fun r s => x (ix4 b c r s)) (i.val + kh) (j.val + kw) * w (ix4 o c ⟨kh, hh⟩ ⟨kw, hw⟩) := by
  unfold tap
  rw [hd]
  refine Finset.sum_congr rfl fun c _ => ?_
  congr 1
  · have e : extractStridedSlice (Pics B C n) ![0, 0, kh, kw] X (pic_slices hN hh hw) (ix4 b c i j)
        = X (ix4 b c ⟨kh + i.val, by omega⟩ ⟨kw + j.val, by omega⟩) := by
      unfold extractStridedSlice
      congr 1
      funext a
      fin_cases a <;> simp [ix4]
    rw [e, hX, Nat.add_comm i.val, Nat.add_comm j.val]
  · rw [shapeCast_apply _ _ _ (ix4 o c 0 0) (by
      rw [Shape.rowMajor_val_four, Shape.rowMajor_val_two]
      show ((o.val * C + c.val) * 1 + 0) * 1 + 0 = o.val * C + c.val
      omega)]
    unfold extractStridedSlice
    congr 1
    funext a
    fin_cases a <;> simp [ix4]

include hX hd in
/-- Each pixel of a head is the convolution. -/
theorem head_at (bias : (⟨1, ![O]⟩ : Shape).Idx → EReal) (bb zz : (Out B n O).Idx → EReal)
    (hb : bb (ix4 b i j o) = bias (ix1 o)) (hz : zz (ix4 b i j o) = 0) :
    head hN d X w bb zz hc (ix4 b i j o) = convAt x w bias b i.val j.val o := by
  have t := tap_at hN d x X w hc hX hd b i j o
  unfold head
  simp only [addf_apply, Ideal.addf_def, t, hb, hz, zero_add]
  unfold convAt conv
  simp only [Fin.sum_univ_three, ← add_assoc]
  rfl

end Head

/-! ## Heads laid out flat -/

/-- A head laid out flat, pixel after pixel and channel after channel, at position `q` of image `b`. -/
def flat [NeZero O] (x : (Pics B C n).Idx → EReal) (w : (Wts O C 3).Idx → EReal) (bias : (⟨1, ![O]⟩ : Shape).Idx → EReal)
    (b : Fin B) (q : ℕ) : EReal :=
  convAt x w bias b (q / O / n) (q / O % n) (Fin.ofNat O q)

/-- Three flat rows one after another. -/
def join3 (f g h : ℕ → EReal) (K L : ℕ) (q : ℕ) : EReal :=
  if q < K then f q else if q - K < L then g (q - K) else h (q - K - L)

variable {L R K : ℕ}

/-- The reference flattens a head channels last. -/
theorem flatten_at [NeZero O] (x : (Pics B C n).Idx → EReal) (w : (Wts O C 3).Idx → EReal)
    (bias : (⟨1, ![O]⟩ : Shape).Idx → EReal) (y : (Out B n O).Idx → EReal) (h : (Out B n O).ShapeCasts ⟨2, ![B, L]⟩)
    (hL : L = n * n * O) (hy : ∀ b (i j : Fin n) o, y (ix4 b i j o) = convAt x w bias b i.val j.val o)
    (b : Fin B) (q : Fin L) : shapeCast ⟨2, ![B, L]⟩ y h (ix2 b q) = flat x w bias b q.val := by
  have hq := q.isLt
  have hp : q.val / O < n * n := Nat.div_lt_of_lt_mul (by rw [Nat.mul_comm, ← hL]; exact hq)
  have hn : 0 < n := Nat.pos_of_ne_zero fun e => by subst e; simp at hp
  rw [shapeCast_apply _ _ _ (ix4 b ⟨q.val / O / n, Nat.div_lt_of_lt_mul hp⟩ ⟨q.val / O % n, Nat.mod_lt _ hn⟩ (Fin.ofNat O q.val))
    (by
      rw [Shape.rowMajor_val_four, Shape.rowMajor_val_two]
      show ((b.val * n + q.val / O / n) * n + q.val / O % n) * O + q.val % O = b.val * L + q.val
      rw [Nat.add_mul (b.val * n), Nat.add_assoc, Nat.div_add_mod' (q.val / O) n, Nat.add_mul, Nat.add_assoc,
        Nat.div_add_mod' q.val O]
      simp only [Nat.mul_assoc, hL]), hy]
  rfl

/-- A head of the reference from its pictures on — padded, convolved, the bias spread over the pixels — flattened. -/
theorem flat_head [NeZero O] (hN : N = n + 2) (d : DotDims (Pics B C n) (Mat O C) (Out B n O))
    (hd : ∀ (l : (Pics B C n).Idx → EReal) (r : (Mat O C).Idx → EReal) b i j o,
      Host.dotGeneral (F := Ideal) (φ₁ := .f32) (φ₂ := .f32) d none l r (ix4 b i j o)
        = ∑ c, l (ix4 b c i j) * r (ix2 o c))
    (x : (Pics B C n).Idx → EReal) (w : (Wts O C 3).Idx → EReal) (bias : (⟨1, ![O]⟩ : Shape).Idx → EReal)
    (hp : (Pics B C n).Pads ![0, 0, 1, 1] ![0, 0, 1, 1] ![0, 0, 0, 0] (Pics B C N)) (hu : 0 < (⟨0, ![]⟩ : Shape).numel)
    (hc : (Wts O C 1).ShapeCasts (Mat O C))
    (h₀ : (⟨0, ![]⟩ : Shape).BroadcastsInDim (Out B n O) (![] : Fin 0 → Fin 4))
    (h₁ : (⟨1, ![O]⟩ : Shape).BroadcastsInDim ⟨4, ![1, 1, 1, O]⟩ (![3] : Fin 1 → Fin 4))
    (h₂ : (⟨4, ![1, 1, 1, O]⟩ : Shape).BroadcastsInDim (Out B n O) (![0, 1, 2, 3] : Fin 4 → Fin 4))
    (h : (Out B n O).ShapeCasts ⟨2, ![B, L]⟩) (hL : L = n * n * O) (b : Fin B) (q : Fin L) :
    shapeCast ⟨2, ![B, L]⟩ (head hN d
        (pad (Pics B C N) ![0, 0, 1, 1] ![0, 0, 1, 1] ![0, 0, 0, 0] x
          (sitofp (F := Ideal) .f32 (constantI ⟨0, ![]⟩ 32 0#32)) hp hu) w
        (broadcastInDim (Out B n O) ![0, 1, 2, 3] h₂ (broadcastInDim ⟨4, ![1, 1, 1, O]⟩ ![3] h₁ bias))
        (broadcastInDim (Out B n O) ![] h₀ (constant (F := Ideal) ⟨0, ![]⟩ .f32 0x00000000#32)) hc) h (ix2 b q)
      = flat x w bias b q.val := by
  refine flatten_at x w bias _ h hL (fun b i j o => ?_) b q
  refine head_at hN d x _ w hc (pad_at hN x _ (fun _ => ?_) hp hu) hd b i j o bias _ _ ?_ ?_
  · show ((((0#32 : BitVec 32).toInt : ℝ)) : EReal) = 0
    simp
  · unfold broadcastInDim
    congr 1
    funext a
    have ho := o.isLt
    fin_cases a
    by_cases h1 : O = 1
    · subst h1
      refine Fin.ext ?_
      simp [ix1]
    · simp [ix1, ix4, h1]
      rfl
  · exact Ideal.ofBits_zero_f32

/-- Three flat arrays joined along their rows. -/
theorem cat2_at {L₀ L₁ L₂ : ℕ} (x : (⟨2, ![B, L₀]⟩ : Shape).Idx → EReal) (y : (⟨2, ![B, L₁]⟩ : Shape).Idx → EReal)
    (z : (⟨2, ![B, L₂]⟩ : Shape).Idx → EReal) (hL : L = L₀ + L₁ + L₂)
    (h : Shape.Concatenates ((([⟨_, x⟩, ⟨_, y⟩, ⟨_, z⟩] : List ((s : Shape) × (s.Idx → EReal)))).map (·.1)) ⟨2, ![B, L]⟩ 1)
    (f₀ f₁ f₂ : ℕ → EReal) (b : Fin B) (hx : ∀ q, x (ix2 b q) = f₀ q.val) (hy : ∀ q, y (ix2 b q) = f₁ q.val)
    (hz : ∀ q, z (ix2 b q) = f₂ q.val) (q : Fin L) :
    concatenate ⟨2, ![B, L]⟩ 1 [⟨_, x⟩, ⟨_, y⟩, ⟨_, z⟩] h (ix2 b q) = join3 f₀ f₁ f₂ L₀ L₁ q.val := by
  have hq := q.isLt
  unfold join3
  split_ifs with h₀ h₁
  · rw [← hx ⟨q.val, h₀⟩]
    exact concatenate_apply_piece _ _ h _ 0 (by simp) _ x rfl rfl 0 (by simp) _
      (fun a ha => by fin_cases a <;> first | rfl | exact absurd rfl ha) (Nat.zero_add _)
  · rw [← hy ⟨q.val - L₀, h₁⟩]
    exact concatenate_apply_piece _ _ h _ 1 (by simp) _ y rfl rfl L₀ (by simp) _
      (fun a ha => by fin_cases a <;> first | rfl | exact absurd rfl ha) (by show L₀ + (q.val - L₀) = q.val; omega)
  · rw [← hz ⟨q.val - L₀ - L₁, by omega⟩]
    exact concatenate_apply_piece _ _ h _ 2 (by simp) _ z rfl rfl (L₀ + L₁) (by simp) _
      (fun a ha => by fin_cases a <;> first | rfl | exact absurd rfl ha) (by show L₀ + L₁ + (q.val - L₀ - L₁) = q.val; omega)

/-- Three arrays of boxes joined along the boxes, each box's entries one after another. -/
theorem cat3_at {R₀ R₁ R₂ : ℕ} (x : (⟨3, ![B, R₀, K]⟩ : Shape).Idx → EReal) (y : (⟨3, ![B, R₁, K]⟩ : Shape).Idx → EReal)
    (z : (⟨3, ![B, R₂, K]⟩ : Shape).Idx → EReal) (hR : R = R₀ + R₁ + R₂)
    (h : Shape.Concatenates ((([⟨_, x⟩, ⟨_, y⟩, ⟨_, z⟩] : List ((s : Shape) × (s.Idx → EReal)))).map (·.1)) ⟨3, ![B, R, K]⟩ 1)
    (f₀ f₁ f₂ : ℕ → EReal) (b : Fin B) (hx : ∀ r k, x (ix3 b r k) = f₀ (r.val * K + k.val))
    (hy : ∀ r k, y (ix3 b r k) = f₁ (r.val * K + k.val)) (hz : ∀ r k, z (ix3 b r k) = f₂ (r.val * K + k.val))
    (r : Fin R) (k : Fin K) :
    concatenate ⟨3, ![B, R, K]⟩ 1 [⟨_, x⟩, ⟨_, y⟩, ⟨_, z⟩] h (ix3 b r k)
      = join3 f₀ f₁ f₂ (R₀ * K) (R₁ * K) (r.val * K + k.val) := by
  have hr := r.isLt
  have hk := k.isLt
  have lt_iff : ∀ u v : ℕ, u * K + k.val < v * K ↔ u < v := fun u v =>
    ⟨fun e => Nat.lt_of_mul_lt_mul_right (a := K) (by omega), fun e => by
      have := Nat.mul_le_mul_right K e
      rw [Nat.succ_mul] at this
      omega⟩
  have sub_eq : ∀ u v : ℕ, v ≤ u → u * K + k.val - v * K = (u - v) * K + k.val := fun u v e => by
    have := Nat.mul_le_mul_right K e
    rw [Nat.sub_mul]
    omega
  unfold join3
  split_ifs with h₀ h₁ <;> rw [lt_iff] at h₀
  · rw [← hx ⟨r.val, h₀⟩]
    exact concatenate_apply_piece _ _ h _ 0 (by simp) _ x rfl rfl 0 (by simp) _
      (fun a ha => by fin_cases a <;> first | rfl | exact absurd rfl ha) (Nat.zero_add _)
  · rw [sub_eq _ _ (by omega), lt_iff] at h₁
    rw [sub_eq _ _ (by omega), ← hy ⟨r.val - R₀, h₁⟩]
    exact concatenate_apply_piece _ _ h _ 1 (by simp) _ y rfl rfl R₀ (by simp) _
      (fun a ha => by fin_cases a <;> first | rfl | exact absurd rfl ha) (by show R₀ + (r.val - R₀) = r.val; omega)
  · rw [sub_eq _ _ (by omega), lt_iff] at h₁
    rw [sub_eq _ _ (by omega), sub_eq _ _ (by omega), ← hz ⟨r.val - R₀ - R₁, by omega⟩]
    exact concatenate_apply_piece _ _ h _ 2 (by simp) _ z rfl rfl (R₀ + R₁) (by simp) _
      (fun a ha => by fin_cases a <;> first | rfl | exact absurd rfl ha) (by show R₀ + R₁ + (r.val - R₀ - R₁) = r.val; omega)

/-- A flat array cut into boxes. -/
theorem boxes_at (x : (⟨2, ![B, L]⟩ : Shape).Idx → EReal) (hL : L = R * K)
    (h : (⟨2, ![B, L]⟩ : Shape).ShapeCasts ⟨3, ![B, R, K]⟩) (f : ℕ → EReal) (b : Fin B)
    (hx : ∀ q, x (ix2 b q) = f q.val) (r : Fin R) (k : Fin K) :
    shapeCast ⟨3, ![B, R, K]⟩ x h (ix3 b r k) = f (r.val * K + k.val) := by
  have hq : r.val * K + k.val < L := by
    have := Nat.mul_le_mul_right K r.isLt
    rw [Nat.succ_mul] at this
    have := k.isLt
    omega
  rw [← hx ⟨r.val * K + k.val, hq⟩]
  refine shapeCast_apply _ _ _ _ ?_
  rw [Shape.rowMajor_val_two, Shape.rowMajor_val_three]
  show b.val * L + (r.val * K + k.val) = (b.val * R + r.val) * K + k.val
  rw [hL, Nat.add_mul, Nat.mul_assoc, Nat.add_assoc]

/-- The channels `s, s + 1, …` of an array of pixels, cut into boxes. -/
theorem channels_at {M U s : ℕ} [NeZero O] (G : (⟨3, ![B, M, U]⟩ : Shape).Idx → EReal)
    (hs : (⟨3, ![B, M, U]⟩ : Shape).Slices ![0, 0, s] ⟨3, ![B, M, O]⟩)
    (h : (⟨3, ![B, M, O]⟩ : Shape).ShapeCasts ⟨3, ![B, R, K]⟩) (hR : M * O = R * K) (f : ℕ → EReal) (b : Fin B)
    (hG : ∀ (p : Fin M) (o : Fin O) (ho : s + o.val < U), G (ix3 b p ⟨s + o.val, ho⟩) = f (p.val * O + o.val))
    (r : Fin R) (k : Fin K) :
    shapeCast ⟨3, ![B, R, K]⟩ (extractStridedSlice ⟨3, ![B, M, O]⟩ ![0, 0, s] G hs) h (ix3 b r k)
      = f (r.val * K + k.val) := by
  have hq : r.val * K + k.val < M * O := by
    have := Nat.mul_le_mul_right K r.isLt
    rw [Nat.succ_mul] at this
    have := k.isLt
    omega
  have hO : 0 < O := Nat.pos_of_neZero O
  have hU : s + O ≤ U := by simpa using hs.2 2
  have hdm := Nat.div_add_mod' (r.val * K + k.val) O
  have hp : (r.val * K + k.val) / O < M := Nat.div_lt_of_lt_mul (hq.trans_eq (Nat.mul_comm _ _))
  have hm := Nat.mod_lt (r.val * K + k.val) hO
  rw [shapeCast_apply _ _ _ (ix3 b ⟨(r.val * K + k.val) / O, hp⟩ ⟨(r.val * K + k.val) % O, hm⟩) (by
    rw [Shape.rowMajor_val_three, Shape.rowMajor_val_three]
    show (b.val * M + (r.val * K + k.val) / O) * O + (r.val * K + k.val) % O = (b.val * R + r.val) * K + k.val
    rw [Nat.add_mul, Nat.add_assoc, hdm, Nat.mul_assoc, hR, Nat.add_mul (b.val * R), Nat.mul_assoc, Nat.add_assoc])]
  have e := hG ⟨(r.val * K + k.val) / O, hp⟩ ⟨(r.val * K + k.val) % O, hm⟩ (by simp only; omega)
  simp only [hdm] at e
  rw [← e]
  unfold extractStridedSlice
  congr 1
  funext a
  fin_cases a <;> simp [ix3]

/-- The second of two heads stacked, laid out flat. -/
theorem twoHeads_right {N O Oc Ol : ℕ} [NeZero Ol] (hO : O = Oc + Ol) (x : (Pics B C n).Idx → EReal)
    (wc : (Wts Oc C 3).Idx → EReal) (bc : (⟨1, ![Oc]⟩ : Shape).Idx → EReal) (wl : (Wts Ol C 3).Idx → EReal)
    (bl : (⟨1, ![Ol]⟩ : Shape).Idx → EReal) (b : Fin B) (p : Fin N) (o : Fin Ol) (ho : Oc + o.val < O) :
    twoHeads hO x wc bc wl bl b p ⟨Oc + o.val, ho⟩ = flat x wl bl b (p.val * Ol + o.val) := by
  have hl := o.isLt
  have e₁ : (p.val * Ol + o.val) / Ol = p.val := by
    rw [Nat.add_comm, Nat.add_mul_div_right _ _ (by omega), Nat.div_eq_of_lt hl, Nat.zero_add]
  have e₂ : Fin.ofNat Ol (p.val * Ol + o.val) = o := Fin.ext (by simp [Nat.mod_eq_of_lt hl])
  unfold twoHeads flat
  rw [dif_neg (by simp), e₁, e₂]
  simp

/-- The first of two heads stacked, laid out flat. -/
theorem twoHeads_left {N O Oc Ol : ℕ} [NeZero Oc] (hO : O = Oc + Ol) (x : (Pics B C n).Idx → EReal)
    (wc : (Wts Oc C 3).Idx → EReal) (bc : (⟨1, ![Oc]⟩ : Shape).Idx → EReal) (wl : (Wts Ol C 3).Idx → EReal)
    (bl : (⟨1, ![Ol]⟩ : Shape).Idx → EReal) (b : Fin B) (p : Fin N) (o : Fin Oc) (ho : 0 + o.val < O) :
    twoHeads hO x wc bc wl bl b p ⟨0 + o.val, ho⟩ = flat x wc bc b (p.val * Oc + o.val) := by
  have hl := o.isLt
  have e₁ : (p.val * Oc + o.val) / Oc = p.val := by
    rw [Nat.add_comm, Nat.add_mul_div_right _ _ (by omega), Nat.div_eq_of_lt hl, Nat.zero_add]
  have e₂ : Fin.ofNat Oc (p.val * Oc + o.val) = o := Fin.ext (by simp [Nat.mod_eq_of_lt hl])
  unfold twoHeads flat
  rw [dif_pos (by simp), e₁, e₂]
  simp

end Cert.Conv

end
-- ==== Proof.Tables.lean ====
/- The prior boxes, which depend on no argument. The kernel's program holds them as one table of 192512 words, a tree of
   matches on the index's digits; the reference builds them from the coordinates of each level's columns and rows. -/
module

public import proofs.«01_k».proof.KernelIdeal
public import proofs.«01_k».proof.ReferenceIdeal
public import proofs.«01_k».proof.Proof.Heads

@[expose] public section

set_option maxRecDepth 16384

noncomputable section

namespace Cert.Priors

/-- `f x`, once `x` is a numeral. -/
def at' (f : Nat → Nat) (x : Nat) : Nat := Nat.rec (f 0) (fun k _ => f (k + 1)) x

theorem at'_eq (f : Nat → Nat) (x : Nat) : at' f x = f x := by cases x <;> rfl

/-- A table of words, as numbers. -/
def tab {M : Nat} [NeZero M] (t : Fin M → BitVec 32) (j : Nat) : Nat := (t (Fin.ofNat M j)).toNat

/-- One of four numbers. -/
def sel (k a b c d : Nat) : Nat := bif Nat.beq k 0 then a else bif Nat.beq k 1 then b else bif Nat.beq k 2 then c else d

/-- A level's boxes one after another, pixel by pixel: left, top, right and bottom. The left and the right edge depend on
    the pixel's column, the top and the bottom on its row. -/
def boxes (x₁ y₁ x₂ y₂ : Nat → Nat) (side per q : Nat) : Nat :=
  sel (q % 4) (at' x₁ (q / 4 / per % side * per + q / 4 % per)) (at' y₁ (q / 4 / per / side * per + q / 4 % per))
    (at' x₂ (q / 4 / per % side * per + q / 4 % per)) (at' y₂ (q / 4 / per / side * per + q / 4 % per))

/-- The three levels' boxes. -/
def allBoxes (q : Nat) : Nat :=
  bif Nat.blt q 65536 then boxes (tab Cert.ReferenceIdeal.lit0) (tab Cert.ReferenceIdeal.lit1) (tab Cert.ReferenceIdeal.lit2) (tab Cert.ReferenceIdeal.lit3) 64 4 q
  else bif Nat.blt q 90112 then boxes (tab Cert.ReferenceIdeal.lit5) (tab Cert.ReferenceIdeal.lit6) (tab Cert.ReferenceIdeal.lit7) (tab Cert.ReferenceIdeal.lit8) 32 6 (q - 65536)
  else boxes (tab Cert.ReferenceIdeal.lit10) (tab Cert.ReferenceIdeal.lit11) (tab Cert.ReferenceIdeal.lit12) (tab Cert.ReferenceIdeal.lit13) 16 6 (q - 90112)

/-- The word at position `n`: the boxes and then, as often, the four variances. -/
def number (n : Nat) : Nat := bif Nat.blt n 96256 then allBoxes n else at' (tab Cert.ReferenceIdeal.lit4) (n % 4)

def word (d₂ d₁ d₀ : Nat) : BitVec 32 := BitVec.ofNat 32 (Nat.add (number ((d₂ * 128 + d₁) * 128 + d₀)) 0)

/-- `f` at a digit, by a match on the digit. -/
def pick128 {α : Type} (z : α) (f : Nat → α) (x : Nat) : α := match x with
  | 0 => f 0 | 1 => f 1 | 2 => f 2 | 3 => f 3 | 4 => f 4 | 5 => f 5 | 6 => f 6 | 7 => f 7 | 8 => f 8 | 9 => f 9 | 10 => f 10 | 11 => f 11
  | 12 => f 12 | 13 => f 13 | 14 => f 14 | 15 => f 15 | 16 => f 16 | 17 => f 17 | 18 => f 18 | 19 => f 19 | 20 => f 20 | 21 => f 21 | 22 => f 22 | 23 => f 23
  | 24 => f 24 | 25 => f 25 | 26 => f 26 | 27 => f 27 | 28 => f 28 | 29 => f 29 | 30 => f 30 | 31 => f 31 | 32 => f 32 | 33 => f 33 | 34 => f 34 | 35 => f 35
  | 36 => f 36 | 37 => f 37 | 38 => f 38 | 39 => f 39 | 40 => f 40 | 41 => f 41 | 42 => f 42 | 43 => f 43 | 44 => f 44 | 45 => f 45 | 46 => f 46 | 47 => f 47
  | 48 => f 48 | 49 => f 49 | 50 => f 50 | 51 => f 51 | 52 => f 52 | 53 => f 53 | 54 => f 54 | 55 => f 55 | 56 => f 56 | 57 => f 57 | 58 => f 58 | 59 => f 59
  | 60 => f 60 | 61 => f 61 | 62 => f 62 | 63 => f 63 | 64 => f 64 | 65 => f 65 | 66 => f 66 | 67 => f 67 | 68 => f 68 | 69 => f 69 | 70 => f 70 | 71 => f 71
  | 72 => f 72 | 73 => f 73 | 74 => f 74 | 75 => f 75 | 76 => f 76 | 77 => f 77 | 78 => f 78 | 79 => f 79 | 80 => f 80 | 81 => f 81 | 82 => f 82 | 83 => f 83
  | 84 => f 84 | 85 => f 85 | 86 => f 86 | 87 => f 87 | 88 => f 88 | 89 => f 89 | 90 => f 90 | 91 => f 91 | 92 => f 92 | 93 => f 93 | 94 => f 94 | 95 => f 95
  | 96 => f 96 | 97 => f 97 | 98 => f 98 | 99 => f 99 | 100 => f 100 | 101 => f 101 | 102 => f 102 | 103 => f 103 | 104 => f 104 | 105 => f 105 | 106 => f 106 | 107 => f 107
  | 108 => f 108 | 109 => f 109 | 110 => f 110 | 111 => f 111 | 112 => f 112 | 113 => f 113 | 114 => f 114 | 115 => f 115 | 116 => f 116 | 117 => f 117 | 118 => f 118 | 119 => f 119
  | 120 => f 120 | 121 => f 121 | 122 => f 122 | 123 => f 123 | 124 => f 124 | 125 => f 125 | 126 => f 126 | 127 => f 127
  | _ => z

/-- The same of a digit below 96. -/
def pick96 {α : Type} (z : α) (f : Nat → α) (x : Nat) : α := match x with
  | 0 => f 0 | 1 => f 1 | 2 => f 2 | 3 => f 3 | 4 => f 4 | 5 => f 5 | 6 => f 6 | 7 => f 7 | 8 => f 8 | 9 => f 9 | 10 => f 10 | 11 => f 11
  | 12 => f 12 | 13 => f 13 | 14 => f 14 | 15 => f 15 | 16 => f 16 | 17 => f 17 | 18 => f 18 | 19 => f 19 | 20 => f 20 | 21 => f 21 | 22 => f 22 | 23 => f 23
  | 24 => f 24 | 25 => f 25 | 26 => f 26 | 27 => f 27 | 28 => f 28 | 29 => f 29 | 30 => f 30 | 31 => f 31 | 32 => f 32 | 33 => f 33 | 34 => f 34 | 35 => f 35
  | 36 => f 36 | 37 => f 37 | 38 => f 38 | 39 => f 39 | 40 => f 40 | 41 => f 41 | 42 => f 42 | 43 => f 43 | 44 => f 44 | 45 => f 45 | 46 => f 46 | 47 => f 47
  | 48 => f 48 | 49 => f 49 | 50 => f 50 | 51 => f 51 | 52 => f 52 | 53 => f 53 | 54 => f 54 | 55 => f 55 | 56 => f 56 | 57 => f 57 | 58 => f 58 | 59 => f 59
  | 60 => f 60 | 61 => f 61 | 62 => f 62 | 63 => f 63 | 64 => f 64 | 65 => f 65 | 66 => f 66 | 67 => f 67 | 68 => f 68 | 69 => f 69 | 70 => f 70 | 71 => f 71
  | 72 => f 72 | 73 => f 73 | 74 => f 74 | 75 => f 75 | 76 => f 76 | 77 => f 77 | 78 => f 78 | 79 => f 79 | 80 => f 80 | 81 => f 81 | 82 => f 82 | 83 => f 83
  | 84 => f 84 | 85 => f 85 | 86 => f 86 | 87 => f 87 | 88 => f 88 | 89 => f 89 | 90 => f 90 | 91 => f 91 | 92 => f 92 | 93 => f 93 | 94 => f 94 | 95 => f 95
  | _ => z

/-- The same of a digit below 12. -/
def pick12 {α : Type} (z : α) (f : Nat → α) (x : Nat) : α := match x with
  | 0 => f 0 | 1 => f 1 | 2 => f 2 | 3 => f 3 | 4 => f 4 | 5 => f 5 | 6 => f 6 | 7 => f 7 | 8 => f 8 | 9 => f 9 | 10 => f 10 | 11 => f 11
  | _ => z

/-- The words at the digits of `i`. -/
def tree (i : Nat) : BitVec 32 :=
  pick12 0#32 (fun d₂ => bif Nat.beq d₂ 11 then pick96 0#32 (fun d₁ => pick128 0#32 (word d₂ d₁) (i % 128)) (i / 128 % 128)
    else pick128 0#32 (fun d₁ => pick128 0#32 (word d₂ d₁) (i % 128)) (i / 128 % 128)) (i / 16384)

theorem pick128_eq {α : Type} (z : α) (f : Nat → α) (x : Nat) (h : x < 128) : pick128 z f x = f x := by
  suffices ∀ y : Fin 128, pick128 z f y.val = f y.val from this ⟨x, h⟩
  intro y
  fin_cases y <;> rfl

theorem pick96_eq {α : Type} (z : α) (f : Nat → α) (x : Nat) (h : x < 96) : pick96 z f x = f x := by
  suffices ∀ y : Fin 96, pick96 z f y.val = f y.val from this ⟨x, h⟩
  intro y
  fin_cases y <;> rfl

theorem pick12_eq {α : Type} (z : α) (f : Nat → α) (x : Nat) (h : x < 12) : pick12 z f x = f x := by
  suffices ∀ y : Fin 12, pick12 z f y.val = f y.val from this ⟨x, h⟩
  intro y
  fin_cases y <;> rfl

theorem tree_eq (i : Nat) (h : i < 192512) : tree i = BitVec.ofNat 32 (number i) := by
  have e : (i / 16384 * 128 + i / 128 % 128) * 128 + i % 128 = i := by omega
  have key : tree i = word (i / 16384) (i / 128 % 128) (i % 128) := by
    unfold tree
    rw [pick12_eq _ _ _ (by omega)]
    cases hb : Nat.beq (i / 16384) 11
    · rw [cond_false, pick128_eq _ _ _ (by omega), pick128_eq _ _ _ (by omega)]
    · have := Nat.eq_of_beq_eq_true hb
      rw [cond_true, pick96_eq _ _ _ (by omega), pick128_eq _ _ _ (by omega)]
  rw [key]
  unfold word
  rw [e]
  rfl

end Cert.Priors

end
-- ==== Proof.Priors.lean ====
/- The kernel's table of prior boxes, entry by entry. -/
module

public import proofs.«01_k».proof.Proof.Tables

@[expose] public section

set_option maxRecDepth 16384

noncomputable section

namespace Cert.Priors

-- all 192512 words are compared
set_option maxHeartbeats 0 in
theorem words (i : Nat) : Cert.KernelIdeal.lit3t i = tree i := by exact rfl

/-- The table holds the reference's numbers. -/
theorem table (i : Fin 192512) : Cert.KernelIdeal.lit3 i = BitVec.ofNat 32 (number i.val) :=
  (words i.val).trans (tree_eq i.val i.isLt)

end Cert.Priors

end
-- ==== Proof.Reference.lean ====
/- What the reference returns: the boxes' offsets and the classes' scores, each entry a convolution at a pixel. -/
module

public import proofs.«01_k».proof.Proof.Heads
public import proofs.«01_k».proof.Proof.Gen.ReferenceIdeal.Run

@[expose] public section

set_option maxRecDepth 16384

noncomputable section

namespace Cert.ReferenceIdeal.Heads

open Idealize.ShloMosaic Idealize.ShloMosaic.TcCoe Idealize.SL.Sem Idealize.ShloMosaic.StableHlo
open Cert.Conv Cert.ReferenceIdeal.Gen Cert.ReferenceIdeal.Value

section Dots

variable {n O C : ℕ}

/-- The contraction over the channels, channels last. -/
def Contracts (d : DotDims (Pics 8 C n) (Mat O C) (Out 8 n O)) : Prop :=
  ∀ (l : (Pics 8 C n).Idx → EReal) (r : (Mat O C).Idx → EReal) b i j o,
    Host.dotGeneral (F := Ideal) (φ₁ := .f32) (φ₂ := .f32) d none l r (ix4 b i j o) = ∑ c, l (ix4 b c i j) * r (ix2 o c)

end Dots

theorem dot_loc0 : Contracts dot_S8x256x64x64_S16x256_S8x64x64x16_1_1_023_0_n_n := fun l r b i j o => by pointwise
theorem dot_conf0 : Contracts dot_S8x256x64x64_S84x256_S8x64x64x84_1_1_023_0_n_n := fun l r b i j o => by pointwise
theorem dot_loc1 : Contracts dot_S8x512x32x32_S24x512_S8x32x32x24_1_1_023_0_n_n := fun l r b i j o => by pointwise
theorem dot_conf1 : Contracts dot_S8x512x32x32_S126x512_S8x32x32x126_1_1_023_0_n_n := fun l r b i j o => by pointwise
theorem dot_loc2 : Contracts dot_S8x256x16x16_S24x256_S8x16x16x24_1_1_023_0_n_n := fun l r b i j o => by pointwise
theorem dot_conf2 : Contracts dot_S8x256x16x16_S126x256_S8x16x16x126_1_1_023_0_n_n := fun l r b i j o => by pointwise

variable (V : Valuation τ sig (Elt Ideal))

/-- The boxes' offsets: the three levels one after another, each flat. -/
theorem loc_at (b : Fin 8) (r : Fin 24064) (k : Fin 4) :
    shapeCast S8x24064x4 (res_main_v363 V) shapeCasts_S8x96256_S8x24064x4 (ix3 b r k)
      = join3 (flat (B := 8) (C := 256) (n := 64) (O := 16) (V (Proc.devRef .tc main_arg0)) (V (Proc.devRef .tc main_arg4)) (V (Proc.devRef .tc main_arg5)) b)
        (flat (B := 8) (C := 512) (n := 32) (O := 24) (V (Proc.devRef .tc main_arg1)) (V (Proc.devRef .tc main_arg8)) (V (Proc.devRef .tc main_arg9)) b)
        (flat (B := 8) (C := 256) (n := 16) (O := 24) (V (Proc.devRef .tc main_arg2)) (V (Proc.devRef .tc main_arg12)) (V (Proc.devRef .tc main_arg13)) b)
        65536 24576 (r.val * 4 + k.val) := by
  refine boxes_at (L := 96256) _ rfl _ _ b (fun q => ?_) r k
  refine cat2_at (L₀ := 65536) (L₁ := 24576) (L₂ := 6144) _ _ _ rfl _ _ _ _ b (fun q => ?_) (fun q => ?_) (fun q => ?_) q
  · exact flat_head rfl _ dot_loc0 _ _ _ _ _ _ _ _ _ _ rfl b q
  · exact flat_head rfl _ dot_loc1 _ _ _ _ _ _ _ _ _ _ rfl b q
  · exact flat_head rfl _ dot_loc2 _ _ _ _ _ _ _ _ _ _ rfl b q

/-- The classes' scores, in the same order. -/
theorem conf_at (b : Fin 8) (r : Fin 24064) (k : Fin 21) :
    shapeCast S8x24064x21 (res_main_v367 V) shapeCasts_S8x505344_S8x24064x21 (ix3 b r k)
      = join3 (flat (B := 8) (C := 256) (n := 64) (O := 84) (V (Proc.devRef .tc main_arg0)) (V (Proc.devRef .tc main_arg6)) (V (Proc.devRef .tc main_arg7)) b)
        (flat (B := 8) (C := 512) (n := 32) (O := 126) (V (Proc.devRef .tc main_arg1)) (V (Proc.devRef .tc main_arg10)) (V (Proc.devRef .tc main_arg11)) b)
        (flat (B := 8) (C := 256) (n := 16) (O := 126) (V (Proc.devRef .tc main_arg2)) (V (Proc.devRef .tc main_arg14)) (V (Proc.devRef .tc main_arg15)) b)
        344064 129024 (r.val * 21 + k.val) := by
  refine boxes_at (L := 505344) _ rfl _ _ b (fun q => ?_) r k
  refine cat2_at (L₀ := 344064) (L₁ := 129024) (L₂ := 32256) _ _ _ rfl _ _ _ _ b (fun q => ?_) (fun q => ?_) (fun q => ?_) q
  · exact flat_head rfl _ dot_conf0 _ _ _ _ _ _ _ _ _ _ rfl b q
  · exact flat_head rfl _ dot_conf1 _ _ _ _ _ _ _ _ _ _ rfl b q
  · exact flat_head rfl _ dot_conf2 _ _ _ _ _ _ _ _ _ _ rfl b q

end Cert.ReferenceIdeal.Heads

end
-- ==== Proof.Boxes.lean ====
/- One level's prior boxes as the reference builds them — the edges' coordinates spread over the pixels, stacked, flattened,
   and the variances repeated beneath — read at a position. The sizes are free. -/
module

public import proofs.«01_k».proof.Proof.Tables

@[expose] public section

noncomputable section

namespace Cert.Priors

open Idealize.ShloMosaic Idealize.ShloMosaic.StableHlo

variable {n P M N T : ℕ}

/-- The real that a word holds. -/
abbrev val (w : ℕ) : EReal := Ideal.ofBits .f32 (BitVec.ofNat 32 w)

theorem val_tab [NeZero T] (t : Fin T → BitVec 32) (j : ℕ) : val (at' (tab t) j) = Ideal.ofBits .f32 (t (Fin.ofNat T j)) := by
  rw [at'_eq]
  unfold val tab
  rw [BitVec.ofNat_toNat, BitVec.setWidth_eq]

/-- Where a column's entry lies in its table. -/
theorem col_pos [NeZero T] (hT : T = n * P) (j : Fin n) (p : Fin P) :
    ((⟨3, ![1, n, P]⟩ : Shape).rowMajor (ix3 0 j p)).val = (Fin.ofNat T (j.val * P + p.val)).val := by
  have hj := Nat.mul_le_mul_right P j.isLt
  rw [Nat.succ_mul] at hj
  have hp := p.isLt
  rw [Shape.rowMajor_val_three]
  show (0 * n + j.val) * P + p.val = (j.val * P + p.val) % T
  rw [Nat.mod_eq_of_lt (by omega), Nat.zero_mul, Nat.zero_add]

/-- Where a row's entry lies in its table. -/
theorem row_pos [NeZero T] (hT : T = n * P) (i : Fin n) (p : Fin P) :
    ((⟨3, ![n, 1, P]⟩ : Shape).rowMajor (ix3 i 0 p)).val = (Fin.ofNat T (i.val * P + p.val)).val := by
  have hi := Nat.mul_le_mul_right P i.isLt
  rw [Nat.succ_mul] at hi
  have hp := p.isLt
  rw [Shape.rowMajor_val_three]
  show (i.val * 1 + 0) * P + p.val = (i.val * P + p.val) % T
  rw [Nat.mod_eq_of_lt (by omega), Nat.mul_one, Nat.add_zero]

variable (hn : n ≠ 1) (hP : P ≠ 1)

include hn hP in
/-- A coordinate that depends on the column, at a pixel's box. -/
theorem col_at (x : (⟨3, ![1, n, P]⟩ : Shape).Idx → EReal)
    (h₁ : (⟨3, ![1, n, P]⟩ : Shape).BroadcastsInDim ⟨3, ![n, n, P]⟩ (![0, 1, 2] : Fin 3 → Fin 3))
    (h₂ : (⟨3, ![n, n, P]⟩ : Shape).BroadcastsInDim ⟨4, ![n, n, P, 1]⟩ (![0, 1, 2] : Fin 3 → Fin 4))
    (i j : Fin n) (p : Fin P) :
    broadcastInDim ⟨4, ![n, n, P, 1]⟩ ![0, 1, 2] h₂ (broadcastInDim ⟨3, ![n, n, P]⟩ ![0, 1, 2] h₁ x) (ix4 i j p 0)
      = x (ix3 0 j p) := by
  rw [broadcastInDim_apply _ _ _ _ (ix3 i j p) (fun a => by fin_cases a <;> simp [hn, hP, ix3, ix4]),
    broadcastInDim_apply _ _ _ _ (ix3 0 j p) (fun a => by fin_cases a <;> simp [hn, hP, ix3])]

include hn hP in
/-- A coordinate that depends on the row, at a pixel's box. -/
theorem row_at (x : (⟨3, ![n, 1, P]⟩ : Shape).Idx → EReal)
    (h₁ : (⟨3, ![n, 1, P]⟩ : Shape).BroadcastsInDim ⟨3, ![n, n, P]⟩ (![0, 1, 2] : Fin 3 → Fin 3))
    (h₂ : (⟨3, ![n, n, P]⟩ : Shape).BroadcastsInDim ⟨4, ![n, n, P, 1]⟩ (![0, 1, 2] : Fin 3 → Fin 4))
    (i j : Fin n) (p : Fin P) :
    broadcastInDim ⟨4, ![n, n, P, 1]⟩ ![0, 1, 2] h₂ (broadcastInDim ⟨3, ![n, n, P]⟩ ![0, 1, 2] h₁ x) (ix4 i j p 0)
      = x (ix3 i 0 p) := by
  rw [broadcastInDim_apply _ _ _ _ (ix3 i j p) (fun a => by fin_cases a <;> simp [hn, hP, ix3, ix4]),
    broadcastInDim_apply _ _ _ _ (ix3 i 0 p) (fun a => by fin_cases a <;> simp [hn, hP, ix3])]

/-- Four arrays stacked along a new last axis. -/
theorem stack_at (x₀ x₁ x₂ x₃ : (⟨4, ![n, n, P, 1]⟩ : Shape).Idx → EReal)
    (h : Shape.Concatenates ((([⟨_, x₀⟩, ⟨_, x₁⟩, ⟨_, x₂⟩, ⟨_, x₃⟩] : List ((s : Shape) × (s.Idx → EReal)))).map (·.1)) ⟨4, ![n, n, P, 4]⟩ 3)
    (i j : Fin n) (p : Fin P) (k : Fin 4) (e : Fin 4 → EReal) (h₀ : x₀ (ix4 i j p 0) = e 0) (h₁ : x₁ (ix4 i j p 0) = e 1)
    (h₂ : x₂ (ix4 i j p 0) = e 2) (h₃ : x₃ (ix4 i j p 0) = e 3) :
    concatenate ⟨4, ![n, n, P, 4]⟩ 3 [⟨_, x₀⟩, ⟨_, x₁⟩, ⟨_, x₂⟩, ⟨_, x₃⟩] h (ix4 i j p k) = e k := by
  fin_cases k
  · exact (concatenate_apply_piece _ _ h _ 0 (by simp) _ x₀ rfl rfl 0 (by simp) (ix4 i j p 0)
      (fun a ha => by fin_cases a <;> first | rfl | exact absurd rfl ha) rfl).trans h₀
  · exact (concatenate_apply_piece _ _ h _ 1 (by simp) _ x₁ rfl rfl 1 (by simp) (ix4 i j p 0)
      (fun a ha => by fin_cases a <;> first | rfl | exact absurd rfl ha) rfl).trans h₁
  · exact (concatenate_apply_piece _ _ h _ 2 (by simp) _ x₂ rfl rfl 2 (by simp) (ix4 i j p 0)
      (fun a ha => by fin_cases a <;> first | rfl | exact absurd rfl ha) rfl).trans h₂
  · exact (concatenate_apply_piece _ _ h _ 3 (by simp) _ x₃ rfl rfl 3 (by simp) (ix4 i j p 0)
      (fun a ha => by fin_cases a <;> first | rfl | exact absurd rfl ha) rfl).trans h₃

theorem sel_val (k : Fin 4) (a b c d : ℕ) : val (sel k.val a b c d) = ![val a, val b, val c, val d] k := by
  fin_cases k <;> rfl

include hn hP in
/-- The boxes of a level, flattened. -/
theorem level_at [NeZero T] (hM : M = n * n * P) (hN : N = M * 4) (t₀ t₁ t₂ t₃ : Fin T → BitVec 32)
    (x₀ x₂ : (⟨3, ![1, n, P]⟩ : Shape).Idx → EReal) (x₁ x₃ : (⟨3, ![n, 1, P]⟩ : Shape).Idx → EReal)
    (e₀ : ∀ j p, x₀ (ix3 0 j p) = Ideal.ofBits .f32 (t₀ (Fin.ofNat T (j.val * P + p.val))))
    (e₁ : ∀ j p, x₁ (ix3 j 0 p) = Ideal.ofBits .f32 (t₁ (Fin.ofNat T (j.val * P + p.val))))
    (e₂ : ∀ j p, x₂ (ix3 0 j p) = Ideal.ofBits .f32 (t₂ (Fin.ofNat T (j.val * P + p.val))))
    (e₃ : ∀ j p, x₃ (ix3 j 0 p) = Ideal.ofBits .f32 (t₃ (Fin.ofNat T (j.val * P + p.val))))
    (hc : (⟨3, ![1, n, P]⟩ : Shape).BroadcastsInDim ⟨3, ![n, n, P]⟩ (![0, 1, 2] : Fin 3 → Fin 3))
    (hr : (⟨3, ![n, 1, P]⟩ : Shape).BroadcastsInDim ⟨3, ![n, n, P]⟩ (![0, 1, 2] : Fin 3 → Fin 3))
    (hb : (⟨3, ![n, n, P]⟩ : Shape).BroadcastsInDim ⟨4, ![n, n, P, 1]⟩ (![0, 1, 2] : Fin 3 → Fin 4))
    (h : Shape.Concatenates [⟨4, ![n, n, P, 1]⟩, ⟨4, ![n, n, P, 1]⟩, ⟨4, ![n, n, P, 1]⟩, ⟨4, ![n, n, P, 1]⟩] ⟨4, ![n, n, P, 4]⟩ 3)
    (g₁ : (⟨4, ![n, n, P, 4]⟩ : Shape).ShapeCasts ⟨2, ![M, 4]⟩) (g₂ : (⟨2, ![M, 4]⟩ : Shape).ShapeCasts ⟨1, ![N]⟩)
    (q : Fin N) :
    shapeCast ⟨1, ![N]⟩ (shapeCast ⟨2, ![M, 4]⟩ (concatenate ⟨4, ![n, n, P, 4]⟩ 3
        [⟨⟨4, ![n, n, P, 1]⟩, broadcastInDim ⟨4, ![n, n, P, 1]⟩ ![0, 1, 2] hb (broadcastInDim ⟨3, ![n, n, P]⟩ ![0, 1, 2] hc x₀)⟩,
         ⟨⟨4, ![n, n, P, 1]⟩, broadcastInDim ⟨4, ![n, n, P, 1]⟩ ![0, 1, 2] hb (broadcastInDim ⟨3, ![n, n, P]⟩ ![0, 1, 2] hr x₁)⟩,
         ⟨⟨4, ![n, n, P, 1]⟩, broadcastInDim ⟨4, ![n, n, P, 1]⟩ ![0, 1, 2] hb (broadcastInDim ⟨3, ![n, n, P]⟩ ![0, 1, 2] hc x₂)⟩,
         ⟨⟨4, ![n, n, P, 1]⟩, broadcastInDim ⟨4, ![n, n, P, 1]⟩ ![0, 1, 2] hb (broadcastInDim ⟨3, ![n, n, P]⟩ ![0, 1, 2] hr x₃)⟩] h)
        g₁) g₂ (ix1 q)
      = val (boxes (tab t₀) (tab t₁) (tab t₂) (tab t₃) n P q.val) := by
  have hq := q.isLt
  have hp : q.val / 4 < n * n * P := by omega
  have hP0 : 0 < P := Nat.pos_of_ne_zero fun e => by subst e; simp at hp
  have hpix : q.val / 4 / P < n * n := Nat.div_lt_of_lt_mul (by rw [Nat.mul_comm]; exact hp)
  have hn0 : 0 < n := Nat.pos_of_ne_zero fun e => by subst e; simp at hpix
  rw [shapeCast_apply _ _ _ (ix2 ⟨q.val / 4, by omega⟩ ⟨q.val % 4, by omega⟩) (by
      rw [Shape.rowMajor_val_two, Shape.rowMajor_val_one]
      show q.val / 4 * 4 + q.val % 4 = q.val
      omega),
    shapeCast_apply _ _ _ (ix4 ⟨q.val / 4 / P / n, Nat.div_lt_of_lt_mul hpix⟩ ⟨q.val / 4 / P % n, Nat.mod_lt _ hn0⟩
      ⟨q.val / 4 % P, Nat.mod_lt _ hP0⟩ ⟨q.val % 4, by omega⟩) (by
      rw [Shape.rowMajor_val_four, Shape.rowMajor_val_two]
      show ((q.val / 4 / P / n * n + q.val / 4 / P % n) * P + q.val / 4 % P) * 4 + q.val % 4 = q.val / 4 * 4 + q.val % 4
      rw [Nat.div_add_mod' (q.val / 4 / P) n, Nat.div_add_mod' (q.val / 4) P])]
  unfold boxes
  rw [sel_val ⟨q.val % 4, by omega⟩, val_tab, val_tab, val_tab, val_tab]
  refine stack_at _ _ _ _ h _ _ _ _ _ ?_ ?_ ?_ ?_
  · exact (col_at hn hP x₀ hc hb _ _ _).trans (e₀ _ _)
  · exact (row_at hn hP x₁ hr hb _ _ _).trans (e₁ _ _)
  · exact (col_at hn hP x₂ hc hb _ _ _).trans (e₂ _ _)
  · exact (row_at hn hP x₃ hr hb _ _ _).trans (e₃ _ _)

/-- The variances, repeated and flattened. -/
theorem vars_at (hM : M ≠ 0) (hN : N = M * 4) (v : (⟨1, ![4]⟩ : Shape).Idx → EReal)
    (h₁ : (⟨1, ![4]⟩ : Shape).BroadcastsInDim ⟨2, ![1, 4]⟩ (![1] : Fin 1 → Fin 2))
    (h₂ : (⟨2, ![1, 4]⟩ : Shape).ShapeCasts ⟨4, ![1, 1, 1, 4]⟩)
    (h₃ : (⟨4, ![1, 1, 1, 4]⟩ : Shape).BroadcastsInDim ⟨4, ![M, 1, 1, 4]⟩ (![0, 1, 2, 3] : Fin 4 → Fin 4))
    (h₄ : (⟨4, ![M, 1, 1, 4]⟩ : Shape).ShapeCasts ⟨2, ![M, 4]⟩) (h₅ : (⟨2, ![M, 4]⟩ : Shape).ShapeCasts ⟨1, ![N]⟩) (q : Fin N) :
    shapeCast ⟨1, ![N]⟩ (shapeCast ⟨2, ![M, 4]⟩ (broadcastInDim ⟨4, ![M, 1, 1, 4]⟩ ![0, 1, 2, 3] h₃
        (shapeCast ⟨4, ![1, 1, 1, 4]⟩ (broadcastInDim ⟨2, ![1, 4]⟩ ![1] h₁ v) h₂)) h₄) h₅ (ix1 q)
      = v (ix1 (Fin.ofNat 4 q.val)) := by
  have hq := q.isLt
  rw [shapeCast_apply _ _ _ (ix2 ⟨q.val / 4, by omega⟩ ⟨q.val % 4, by omega⟩) (by
      rw [Shape.rowMajor_val_two, Shape.rowMajor_val_one]
      show q.val / 4 * 4 + q.val % 4 = q.val
      omega),
    shapeCast_apply _ _ _ (ix4 ⟨q.val / 4, by omega⟩ 0 0 ⟨q.val % 4, by omega⟩) (by
      rw [Shape.rowMajor_val_four, Shape.rowMajor_val_two]
      show ((q.val / 4 * 1 + 0) * 1 + 0) * 4 + q.val % 4 = q.val / 4 * 4 + q.val % 4
      omega),
    broadcastInDim_apply _ _ _ _ (ix4 0 0 0 ⟨q.val % 4, by omega⟩) (fun a => by fin_cases a <;> simp [ix4]),
    shapeCast_apply _ _ _ (ix2 0 ⟨q.val % 4, by omega⟩) (by
      rw [Shape.rowMajor_val_four, Shape.rowMajor_val_two]
      rfl),
    broadcastInDim_apply _ _ _ _ (ix1 ⟨q.val % 4, by omega⟩) (fun a => by fin_cases a <;> simp [ix1, ix2])]
  rfl

/-- Two rows stacked. -/
theorem pair_at (x y : (⟨2, ![1, N]⟩ : Shape).Idx → EReal)
    (h : Shape.Concatenates ((([⟨_, x⟩, ⟨_, y⟩] : List ((s : Shape) × (s.Idx → EReal)))).map (·.1)) ⟨2, ![2, N]⟩ 0) (s : Fin 2)
    (q : Fin N) :
    concatenate ⟨2, ![2, N]⟩ 0 [⟨_, x⟩, ⟨_, y⟩] h (ix2 s q) = if s.val = 0 then x (ix2 0 q) else y (ix2 0 q) := by
  fin_cases s
  · exact concatenate_apply_piece _ _ h _ 0 (by simp) _ x rfl rfl 0 (by simp) (ix2 0 q)
      (fun a ha => by fin_cases a <;> first | rfl | exact absurd rfl ha) rfl
  · exact concatenate_apply_piece _ _ h _ 1 (by simp) _ y rfl rfl 1 (by simp) (ix2 0 q)
      (fun a ha => by fin_cases a <;> first | rfl | exact absurd rfl ha) rfl

/-- A flat array above another one. -/
theorem two_rows_at (hN : N ≠ 1) (x y : (⟨1, ![N]⟩ : Shape).Idx → EReal)
    (h₁ : (⟨1, ![N]⟩ : Shape).BroadcastsInDim ⟨2, ![1, N]⟩ (![1] : Fin 1 → Fin 2))
    (h : Shape.Concatenates [⟨2, ![1, N]⟩, ⟨2, ![1, N]⟩] ⟨2, ![2, N]⟩ 0)
    (h₂ : (⟨2, ![2, N]⟩ : Shape).BroadcastsInDim ⟨3, ![1, 2, N]⟩ (![1, 2] : Fin 2 → Fin 3)) (f₀ f₁ : ℕ → EReal)
    (hx : ∀ q, x (ix1 q) = f₀ q.val) (hy : ∀ q, y (ix1 q) = f₁ q.val) (s : Fin 2) (q : Fin N) :
    broadcastInDim ⟨3, ![1, 2, N]⟩ ![1, 2] h₂ (concatenate ⟨2, ![2, N]⟩ 0
        [⟨⟨2, ![1, N]⟩, broadcastInDim ⟨2, ![1, N]⟩ ![1] h₁ x⟩, ⟨⟨2, ![1, N]⟩, broadcastInDim ⟨2, ![1, N]⟩ ![1] h₁ y⟩] h) (ix3 0 s q)
      = if s.val = 0 then f₀ q.val else f₁ q.val := by
  rw [broadcastInDim_apply _ _ _ _ (ix2 s q) (fun a => by fin_cases a <;> simp [hN, ix2, ix3])]
  have one : ∀ z : (⟨1, ![N]⟩ : Shape).Idx → EReal, broadcastInDim ⟨2, ![1, N]⟩ ![1] h₁ z (ix2 0 q) = z (ix1 q) := fun z =>
    broadcastInDim_apply _ _ _ _ (ix1 q) (fun a => by fin_cases a; simp [hN, ix1, ix2])
  refine (pair_at _ _ h s q).trans ?_
  rw [one, one, hx, hy]

/-- Three levels joined along their positions. -/
theorem levels_at {L L₀ L₁ L₂ : ℕ} (hL : L = L₀ + L₁ + L₂) (x : (⟨3, ![1, 2, L₀]⟩ : Shape).Idx → EReal)
    (y : (⟨3, ![1, 2, L₁]⟩ : Shape).Idx → EReal) (z : (⟨3, ![1, 2, L₂]⟩ : Shape).Idx → EReal)
    (h : Shape.Concatenates ((([⟨_, x⟩, ⟨_, y⟩, ⟨_, z⟩] : List ((s : Shape) × (s.Idx → EReal)))).map (·.1)) ⟨3, ![1, 2, L]⟩ 2)
    (f₀ f₁ f₂ : ℕ → EReal) (s : Fin 2) (hx : ∀ q, x (ix3 0 s q) = f₀ q.val) (hy : ∀ q, y (ix3 0 s q) = f₁ q.val)
    (hz : ∀ q, z (ix3 0 s q) = f₂ q.val) (q : Fin L) :
    concatenate ⟨3, ![1, 2, L]⟩ 2 [⟨_, x⟩, ⟨_, y⟩, ⟨_, z⟩] h (ix3 0 s q) = Cert.Conv.join3 f₀ f₁ f₂ L₀ L₁ q.val := by
  have hq := q.isLt
  unfold Cert.Conv.join3
  split_ifs with h₀ h₁
  · rw [← hx ⟨q.val, h₀⟩]
    exact concatenate_apply_piece _ _ h _ 0 (by simp) _ x rfl rfl 0 (by simp) _
      (fun a ha => by fin_cases a <;> first | rfl | exact absurd rfl ha) (Nat.zero_add _)
  · rw [← hy ⟨q.val - L₀, h₁⟩]
    exact concatenate_apply_piece _ _ h _ 1 (by simp) _ y rfl rfl L₀ (by simp) _
      (fun a ha => by fin_cases a <;> first | rfl | exact absurd rfl ha) (by show L₀ + (q.val - L₀) = q.val; omega)
  · rw [← hz ⟨q.val - L₀ - L₁, by omega⟩]
    exact concatenate_apply_piece _ _ h _ 2 (by simp) _ z rfl rfl (L₀ + L₁) (by simp) _
      (fun a ha => by fin_cases a <;> first | rfl | exact absurd rfl ha) (by show L₀ + L₁ + (q.val - L₀ - L₁) = q.val; omega)

end Cert.Priors

end
-- ==== Proof.Levels.lean ====
/- The prior boxes that the reference returns, entry by entry. -/
module

public import proofs.«01_k».proof.Proof.Boxes
public import proofs.«01_k».proof.Proof.Gen.ReferenceIdeal.Run

@[expose] public section

set_option maxRecDepth 16384

noncomputable section

namespace Cert.Priors

open Idealize.ShloMosaic Idealize.ShloMosaic.TcCoe Idealize.SL.Sem Idealize.ShloMosaic.StableHlo
open Cert.Conv Cert.ReferenceIdeal Cert.ReferenceIdeal.Gen Cert.ReferenceIdeal.Value

/-- A comparison of numbers that is carried out. -/
theorem bif_blt {α : Type} (a b : ℕ) (x y : α) : (bif Nat.blt a b then x else y) = if a < b then x else y := by
  by_cases h : a < b
  · rw [if_pos h, (Nat.blt_eq (x := a) (y := b)).mpr h, cond_true]
  · rw [if_neg h, Bool.eq_false_iff.mpr fun e => h (Nat.blt_eq.mp e), cond_false]

/-- The coordinates of a column's edges. -/
theorem col_entry {n P T : ℕ} [NeZero T] (hT : T = n * P) (t : Fin T → BitVec 32)
    (e : (⟨3, ![1, n, P]⟩ : Shape).Idx → Fin T)
    (he : ∀ i, (e i).val = ((⟨3, ![1, n, P]⟩ : Shape).rowMajor i).val) (j : Fin n) (p : Fin P) :
    (fun i => (FloatOps.ofBits (F := Ideal) .f32 (t (e i)) : EReal)) (ix3 0 j p)
      = Ideal.ofBits .f32 (t (Fin.ofNat T (j.val * P + p.val))) :=
  congrArg (fun k => Ideal.ofBits .f32 (t k)) (Fin.ext ((he _).trans (col_pos hT j p)))

/-- The coordinates of a row's edges. -/
theorem row_entry {n P T : ℕ} [NeZero T] (hT : T = n * P) (t : Fin T → BitVec 32)
    (e : (⟨3, ![n, 1, P]⟩ : Shape).Idx → Fin T)
    (he : ∀ i, (e i).val = ((⟨3, ![n, 1, P]⟩ : Shape).rowMajor i).val) (j : Fin n) (p : Fin P) :
    (fun i => (FloatOps.ofBits (F := Ideal) .f32 (t (e i)) : EReal)) (ix3 j 0 p)
      = Ideal.ofBits .f32 (t (Fin.ofNat T (j.val * P + p.val))) :=
  congrArg (fun k => Ideal.ofBits .f32 (t k)) (Fin.ext ((he _).trans (row_pos hT j p)))

/-- One of the variances. -/
theorem var_entry (t₀ t : Fin 4 → BitVec 32) (ht : ∀ k, t k = t₀ k) (q : ℕ) :
    (fun i => (FloatOps.ofBits (F := Ideal) .f32 (t (S4.rowMajor i)) : EReal)) (ix1 (Fin.ofNat 4 q))
      = val (at' (tab t₀) (q % 4)) := by
  rw [val_tab]
  refine congrArg (Ideal.ofBits .f32) ((ht _).trans (congrArg t₀ (Fin.ext ?_)))
  rw [Shape.rowMajor_val_one]
  show q % 4 = q % 4 % 4
  omega

/-- The variances are the same at every level. -/
theorem lit9_eq (k : Fin 4) : lit9 k = lit4 k := by fin_cases k <;> rfl

/-- So are the last level's. -/
theorem lit14_eq (k : Fin 4) : lit14 k = lit4 k := by fin_cases k <;> rfl

/-- A level's boxes, or beneath them its variances. -/
def level (f : ℕ → ℕ) (s q : ℕ) : EReal := if s = 0 then val (f q) else val (at' (tab lit4) (q % 4))

/-- The three levels one after another are the numbers in their order. -/
theorem join_levels (s : Fin 2) (q : ℕ) (hq : q < 96256) :
    join3 (level (boxes (tab lit0) (tab lit1) (tab lit2) (tab lit3) 64 4) s.val)
      (level (boxes (tab lit5) (tab lit6) (tab lit7) (tab lit8) 32 6) s.val)
      (level (boxes (tab lit10) (tab lit11) (tab lit12) (tab lit13) 16 6) s.val) 65536 24576 q
      = val (number (s.val * 96256 + q)) := by
  unfold number allBoxes join3 level
  rw [bif_blt, bif_blt, bif_blt]
  obtain ⟨s, hs⟩ := s
  obtain rfl | rfl : s = 0 ∨ s = 1 := by omega
  · have h₀ : 0 * 96256 + q = q := by omega
    dsimp only
    rw [h₀, if_pos hq, if_pos rfl, if_pos rfl, if_pos rfl]
    have h₂ : q - 65536 - 24576 = q - 90112 := by omega
    by_cases h : q < 65536
    · rw [if_pos h, if_pos h]
    · by_cases h' : q < 90112
      · rw [if_neg h, if_neg h, if_pos h', if_pos (by omega)]
      · rw [if_neg h, if_neg h, if_neg h', if_neg (by omega), h₂]
  · dsimp only
    rw [if_neg (by omega : ¬ 1 * 96256 + q < 96256), if_neg Nat.one_ne_zero, if_neg Nat.one_ne_zero, if_neg Nat.one_ne_zero]
    split_ifs <;> exact congrArg (fun k => val (at' (tab lit4) k)) (by omega)

variable (V : Valuation τ sig (Elt Ideal))

/-- The reference's priors before the last reshape, at a row and a position. -/
theorem joined_at (s : Fin 2) (q : Fin 96256) : res_main_v368 V (ix3 0 s q) = val (number (s.val * 96256 + q.val)) := by
  refine Eq.trans ?_ (join_levels s q.val q.isLt)
  have h₉ := lit9_eq
  have h₁₄ := lit14_eq
  unfold res_main_v368 level
  generalize lit0 = t₀, lit1 = t₁, lit2 = t₂, lit3 = t₃, lit4 = v₀, lit5 = t₅, lit6 = t₆, lit7 = t₇, lit8 = t₈, lit9 = v₁,
    lit10 = t₁₀, lit11 = t₁₁, lit12 = t₁₂, lit13 = t₁₃, lit14 = v₂ at h₉ h₁₄ ⊢
  refine levels_at (L₀ := 65536) (L₁ := 24576) (L₂ := 6144) rfl _ _ _ _ _ _ _ s (fun q => ?_) (fun q => ?_) (fun q => ?_) q
  · refine two_rows_at (N := 65536) (by decide) _ _ _ _ _ (fun q => val (boxes (tab t₀) (tab t₁) (tab t₂) (tab t₃) 64 4 q))
      (fun q => val (at' (tab v₀) (q % 4))) (fun q => ?_) (fun q => ?_) s q
    · exact level_at (n := 64) (P := 4) (M := 16384) (N := 65536) (T := 256) (by decide) (by decide) rfl rfl t₀ t₁ t₂ t₃ _ _ _ _
        (col_entry (n := 64) (P := 4) (T := 256) rfl t₀ S1x64x4.rowMajor fun _ => rfl)
        (row_entry (n := 64) (P := 4) (T := 256) rfl t₁ S64x1x4.rowMajor fun _ => rfl)
        (col_entry (n := 64) (P := 4) (T := 256) rfl t₂ S1x64x4.rowMajor fun _ => rfl)
        (row_entry (n := 64) (P := 4) (T := 256) rfl t₃ S64x1x4.rowMajor fun _ => rfl)
        _ _ _ _ _ _ q
    · exact (vars_at (M := 16384) (N := 65536) (by decide) rfl _ _ _ _ _ _ q).trans (var_entry v₀ v₀ (fun _ => rfl) q.val)
  · refine two_rows_at (N := 24576) (by decide) _ _ _ _ _ (fun q => val (boxes (tab t₅) (tab t₆) (tab t₇) (tab t₈) 32 6 q))
      (fun q => val (at' (tab v₀) (q % 4))) (fun q => ?_) (fun q => ?_) s q
    · exact level_at (n := 32) (P := 6) (M := 6144) (N := 24576) (T := 192) (by decide) (by decide) rfl rfl t₅ t₆ t₇ t₈ _ _ _ _
        (col_entry (n := 32) (P := 6) (T := 192) rfl t₅ S1x32x6.rowMajor fun _ => rfl)
        (row_entry (n := 32) (P := 6) (T := 192) rfl t₆ S32x1x6.rowMajor fun _ => rfl)
        (col_entry (n := 32) (P := 6) (T := 192) rfl t₇ S1x32x6.rowMajor fun _ => rfl)
        (row_entry (n := 32) (P := 6) (T := 192) rfl t₈ S32x1x6.rowMajor fun _ => rfl)
        _ _ _ _ _ _ q
    · exact (vars_at (M := 6144) (N := 24576) (by decide) rfl _ _ _ _ _ _ q).trans (var_entry v₀ v₁ h₉ q.val)
  · refine two_rows_at (N := 6144) (by decide) _ _ _ _ _ (fun q => val (boxes (tab t₁₀) (tab t₁₁) (tab t₁₂) (tab t₁₃) 16 6 q))
      (fun q => val (at' (tab v₀) (q % 4))) (fun q => ?_) (fun q => ?_) s q
    · exact level_at (n := 16) (P := 6) (M := 1536) (N := 6144) (T := 96) (by decide) (by decide) rfl rfl t₁₀ t₁₁ t₁₂ t₁₃ _ _ _ _
        (col_entry (n := 16) (P := 6) (T := 96) rfl t₁₀ S1x16x6.rowMajor fun _ => rfl)
        (row_entry (n := 16) (P := 6) (T := 96) rfl t₁₁ S16x1x6.rowMajor fun _ => rfl)
        (col_entry (n := 16) (P := 6) (T := 96) rfl t₁₂ S1x16x6.rowMajor fun _ => rfl)
        (row_entry (n := 16) (P := 6) (T := 96) rfl t₁₃ S16x1x6.rowMajor fun _ => rfl)
        _ _ _ _ _ _ q
    · exact (vars_at (M := 1536) (N := 6144) (by decide) rfl _ _ _ _ _ _ q).trans (var_entry v₀ v₂ h₁₄ q.val)

/-- The reference's priors, box by box. -/
theorem returned_at (i : S1x2x24064x4.Idx) :
    shapeCast S1x2x24064x4 (res_main_v368 V) shapeCasts_S1x2x96256_S1x2x24064x4 i
      = val (number (S1x2x24064x4.rowMajor i).val) := by
  obtain ⟨s, r, k, rfl⟩ : ∃ (s : Fin 2) (r : Fin 24064) (k : Fin 4), i = ix4 0 s r k :=
    ⟨i 1, i 2, i 3, (eq_ix4 i).trans (congrArg (fun z => ix4 z (i 1) (i 2) (i 3)) (Subsingleton.elim (α := Fin 1) _ _))⟩
  have hr := r.isLt
  have hk := k.isLt
  have hpos : (S1x2x24064x4.rowMajor (ix4 0 s r k)).val = s.val * 96256 + (r.val * 4 + k.val) := by
    rw [Shape.rowMajor_val_four]
    show ((0 * 2 + s.val) * 24064 + r.val) * 4 + k.val = _
    omega
  rw [hpos, shapeCast_apply _ _ _ (ix3 0 s ⟨r.val * 4 + k.val, by omega⟩) (by
    rw [hpos, Shape.rowMajor_val_three]
    show (0 * 2 + s.val) * 96256 + (r.val * 4 + k.val) = _
    omega)]
  exact joined_at V s _

end Cert.Priors

end
-- ==== Proof.Block.lean ====
/- What one point of the launch's grid computes: each of its three output blocks, one image of one pyramid level, is
   the convolution of that image with the level's stacked weights. -/
module

public import proofs.«01_k».proof.Proof.Conv
public import proofs.«01_k».proof.Proof.Gen.KernelIdeal.Frame
public import Idealize.ShloMosaic.Lib.Pipeline.ValueKit.Point

@[expose] public section

set_option maxRecDepth 16384

noncomputable section

namespace Cert.KernelIdeal.Block

open Idealize.ShloMosaic Idealize.ShloMosaic.TcCoe Idealize.SL.Sem
open Cert.KernelIdeal.Gen Cert.Conv

/-- What the two rows of a level's mask hold: row 0 is zero on the first column of the picture and row 1 on its last
    column; elsewhere both are one. -/
def Masks {n N : ℕ} (mask : Fin 2 → Fin N → EReal) : Prop :=
  ∀ q : Fin N, mask 0 q = (if q.val % n = 0 then 0 else 1) ∧ mask 1 q = (if q.val % n = n - 1 then 0 else 1)

/-- The kernel's three pictures: masked for the taps to the left, as it is, masked for the taps to the right. -/
def pics {C N : ℕ} (f : Fin C → Fin N → EReal) (mask : Fin 2 → Fin N → EReal) : Fin 3 → Fin C → Fin N → EReal :=
  ![fun c q => f c q * mask 1 q, f, fun c q => f c q * mask 0 q]

theorem prepared_pics {C n N : ℕ} (hN : N = n * n) (x : Fin C → Fin n → Fin n → EReal) (f : Fin C → Fin N → EReal)
    (hf : ∀ c q, f c q = x c ⟨q.val / n, row_lt hN q⟩ ⟨q.val % n, col_lt hN q⟩) (mask : Fin 2 → Fin N → EReal)
    (hm : Masks (n := n) mask) (kw : Fin 3) (c : Fin C) : Prepared hN (x c) kw.val (pics f mask kw c) := by
  intro q
  obtain ⟨m₀, m₁⟩ := hm q
  fin_cases kw
  · simp [pics, m₁, hf]
  · simp [pics, hf]
  · simp [pics, m₀, hf]

variable (x0 : Vec Ideal S1x256x4096 .f32) (x1 : Vec Ideal S1x512x1024 .f32) (x2 : Vec Ideal S1x256x256 .f32)
  (x3 : Vec Ideal S9x256x100 .f32) (x4 : Vec Ideal S9x512x150 .f32) (x5 : Vec Ideal S9x256x150 .f32)
  (x6 : Vec Ideal S1x100 .f32) (x7 : Vec Ideal S1x150 .f32) (x8 : Vec Ideal S1x150 .f32)
  (x9 : Vec Ideal S2x4096 .f32) (x10 : Vec Ideal S2x1024 .f32) (x11 : Vec Ideal S2x256 .f32)

/-- Level 0: the block the point stores for its image. -/
theorem block0 (x : Fin 256 → Fin 64 → Fin 64 → EReal)
    (hf : ∀ c q, x0 (ix3 0 c q) = x c ⟨q.val / 64, row_lt (by decide) q⟩ ⟨q.val % 64, col_lt (by decide) q⟩)
    (hm : Masks (n := 64) fun r q => x9 (ix2 r q)) (p : Fin 4096) (o : Fin 100) :
    out0_12 x0 x1 x2 x3 x4 x5 x6 x7 x8 x9 x10 x11 (ix3 0 p o)
      = conv x (fun kh kw c => x3 (ix3 ⟨3 * kh.val + kw.val, by omega⟩ c o)) (x6 (ix2 0 o))
          (p.val / 64) (p.val % 64) := by
  unfold_out out0_12
  rw [View.canon_unit_zero (h := by funext a; fin_cases a <;> rfl)]
  pointwise [k0_pay2, k0_pay3, k0_pay4, k0_pay5, k0_pay6, k0_pay7, k0_pay8, k0_pay9]
  exact nine_taps (by decide) (by decide) x (fun k c => x3 (ix3 k c o)) (x6 (ix2 0 o))
    (pics (fun c q => x0 (ix3 0 c q)) fun r q => x9 (ix2 r q)) (prepared_pics _ x _ hf _ hm) p
    65 64 63 4095 4033 4032 4031 rfl rfl rfl rfl rfl rfl rfl

/-- Level 1: the block the point stores for its image. -/
theorem block1 (x : Fin 512 → Fin 32 → Fin 32 → EReal)
    (hf : ∀ c q, x1 (ix3 0 c q) = x c ⟨q.val / 32, row_lt (by decide) q⟩ ⟨q.val % 32, col_lt (by decide) q⟩)
    (hm : Masks (n := 32) fun r q => x10 (ix2 r q)) (p : Fin 1024) (o : Fin 150) :
    out0_13 x0 x1 x2 x3 x4 x5 x6 x7 x8 x9 x10 x11 (ix3 0 p o)
      = conv x (fun kh kw c => x4 (ix3 ⟨3 * kh.val + kw.val, by omega⟩ c o)) (x7 (ix2 0 o))
          (p.val / 32) (p.val % 32) := by
  unfold_out out0_13
  rw [View.canon_unit_zero (h := by funext a; fin_cases a <;> rfl)]
  pointwise [k0_pay10, k0_pay11, k0_pay12, k0_pay13, k0_pay14, k0_pay15, k0_pay16, k0_pay17]
  exact nine_taps (by decide) (by decide) x (fun k c => x4 (ix3 k c o)) (x7 (ix2 0 o))
    (pics (fun c q => x1 (ix3 0 c q)) fun r q => x10 (ix2 r q)) (prepared_pics _ x _ hf _ hm) p
    33 32 31 1023 993 992 991 rfl rfl rfl rfl rfl rfl rfl

/-- Level 2: the block the point stores for its image. -/
theorem block2 (x : Fin 256 → Fin 16 → Fin 16 → EReal)
    (hf : ∀ c q, x2 (ix3 0 c q) = x c ⟨q.val / 16, row_lt (by decide) q⟩ ⟨q.val % 16, col_lt (by decide) q⟩)
    (hm : Masks (n := 16) fun r q => x11 (ix2 r q)) (p : Fin 256) (o : Fin 150) :
    out0_14 x0 x1 x2 x3 x4 x5 x6 x7 x8 x9 x10 x11 (ix3 0 p o)
      = conv x (fun kh kw c => x5 (ix3 ⟨3 * kh.val + kw.val, by omega⟩ c o)) (x8 (ix2 0 o))
          (p.val / 16) (p.val % 16) := by
  unfold_out out0_14
  rw [View.canon_unit_zero (h := by funext a; fin_cases a <;> rfl)]
  pointwise [k0_pay18, k0_pay19, k0_pay20, k0_pay21, k0_pay22, k0_pay23, k0_pay24, k0_pay1]
  exact nine_taps (by decide) (by decide) x (fun k c => x5 (ix3 k c o)) (x8 (ix2 0 o))
    (pics (fun c q => x2 (ix3 0 c q)) fun r q => x11 (ix2 r q)) (prepared_pics _ x _ hf _ hm) p
    17 16 15 255 241 240 239 rfl rfl rfl rfl rfl rfl rfl

end Cert.KernelIdeal.Block

end
-- ==== Proof.Masks.lean ====
/- The two-row masks the program holds as tables: a level's first row is zero on the first column of the picture and its
   second row on the last column; every other entry is one. -/
module

public import proofs.«01_k».proof.Proof.Block

@[expose] public section

set_option maxRecDepth 16384

noncomputable section

namespace Cert.KernelIdeal.Masks

open Idealize.ShloMosaic Cert.KernelIdeal.Block

/-- The word a mask holds for pixel `q` of an `n × n` picture in row `r`. -/
def word (n r q : ℕ) : BitVec 32 := if q % n = (if r = 0 then 0 else n - 1) then 0#32 else 0x3F800000#32

theorem lit0_word : ∀ q : Fin 8192, lit0t q.val = word 64 (q.val / 4096) q.val := by decide +kernel
theorem lit1_word : ∀ q : Fin 2048, lit1t q.val = word 32 (q.val / 1024) q.val := by decide +kernel
theorem lit2_word : ∀ q : Fin 512, lit2t q.val = word 16 (q.val / 256) q.val := by decide +kernel

/-- A table of such words, two rows of `n * n` laid one after the other, is a mask. -/
theorem masks_of_words {n N M : ℕ} (hn : n = 64 ∨ n = 32 ∨ n = 16) (hN : N = n * n) (lit : ℕ → BitVec 32)
    (h : ∀ q : Fin M, lit q.val = word n (q.val / N) q.val) (hM : M = 2 * N)
    (mask : Fin 2 → Fin N → EReal) (hm : ∀ r q, mask r q = Ideal.ofBits .f32 (lit (r.val * N + q.val))) :
    Masks (n := n) mask := by
  intro q
  have hq := q.isLt
  have h₀ := h ⟨0 * N + q.val, by omega⟩
  have h₁ := h ⟨1 * N + q.val, by omega⟩
  simp only at h₀ h₁
  have key : (0 * N + q.val) / N = 0 ∧ (0 * N + q.val) % n = q.val % n ∧ (1 * N + q.val) / N = 1 ∧
      (1 * N + q.val) % n = q.val % n := by
    rcases hn with rfl | rfl | rfl <;> subst hN <;> omega
  constructor
  · rw [hm]
    show Ideal.ofBits .f32 (lit (0 * N + q.val)) = _
    rw [h₀]
    unfold word
    rw [key.1, key.2.1]
    split_ifs <;> simp_all
  · rw [hm]
    show Ideal.ofBits .f32 (lit (1 * N + q.val)) = _
    rw [h₁]
    unfold word
    rw [key.2.2.1, key.2.2.2]
    split_ifs <;> simp_all

end Cert.KernelIdeal.Masks

end
-- ==== Proof.Arrays.lean ====
/- What the launch leaves in its three output arrays: at every image, every pixel and every channel, the two heads'
   convolutions of that level. -/
module

public import proofs.«01_k».proof.Proof.Block
public import proofs.«01_k».proof.Proof.Masks
public import Idealize.ShloMosaic.Lib.StableHlo.ReadAt

@[expose] public section

set_option maxRecDepth 16384

noncomputable section

namespace Cert.KernelIdeal.Arrays

open Idealize.ShloMosaic Idealize.ShloMosaic.TcCoe Idealize.SL.Sem
open Cert.KernelIdeal.Gen Cert.Conv Cert.KernelIdeal.Block

variable (m : (ℓ : Loc nD τ sig) → Buf (Elt Ideal) ℓ)

/-- Which block each window shows at point `t`: the images and the results are taken image by image, the weights, the
    biases and the masks whole. -/
theorem idx : ∀ t : Fin cfg0.N,
    (win0_0.index t = ![t.val, 0, 0] ∧ win0_1.index t = ![t.val, 0, 0] ∧ win0_2.index t = ![t.val, 0, 0]) ∧
    (win0_3.index t = ![0, 0, 0] ∧ win0_4.index t = ![0, 0, 0] ∧ win0_5.index t = ![0, 0, 0]) ∧
    (win0_6.index t = ![0, 0] ∧ win0_7.index t = ![0, 0] ∧ win0_8.index t = ![0, 0]) ∧
    (win0_9.index t = ![0, 0] ∧ win0_10.index t = ![0, 0] ∧ win0_11.index t = ![0, 0]) ∧
    (win0_12.index t = ![t.val, 0, 0] ∧ win0_13.index t = ![t.val, 0, 0] ∧ win0_14.index t = ![t.val, 0, 0]) :=
  (by decide +kernel : ∀ t : Fin grid0.N, _)

/-- A point of the grid as an image of the batch. -/
def img (t : Fin cfg0.N) : Fin 8 := ⟨t.val, N_0 ▸ t.isLt⟩

/-! ## Level 0 -/

theorem entry_x0 (c : Dev nD) (b : Fin 8) (k : Fin 256) (q : Fin 4096) :
    V m c main_v15 (ix3 b k q)
      = m ((c : Thread nD τ).loc main_arg0) (ix4 b k ⟨q.val / 64, by omega⟩ ⟨q.val % 64, by omega⟩) := by
  unfold V
  after_reads_at

theorem entry_w0 (c : Dev nD) (kh kw : Fin 3) (k : Fin 256) (o : Fin 100) :
    V m c main_v2 (ix3 ⟨3 * kh.val + kw.val, by omega⟩ k o)
      = if h : o.val < 84 then (m ((c : Thread nD τ).loc main_arg6) (ix4 ⟨o, h⟩ k kh kw) : EReal)
        else m ((c : Thread nD τ).loc main_arg4) (ix4 ⟨o.val - 84, by omega⟩ k kh kw) := by
  unfold V
  after_reads_at
  rfl

theorem entry_b0 (c : Dev nD) (o : Fin 100) :
    V m c main_v4 (ix2 0 o)
      = if h : o.val < 84 then (m ((c : Thread nD τ).loc main_arg7) (ix1 ⟨o, h⟩) : EReal)
        else m ((c : Thread nD τ).loc main_arg5) (ix1 ⟨o.val - 84, by omega⟩) := by
  unfold V
  after_reads_at
  rfl

theorem entry_m0 (c : Dev nD) (r : Fin 2) (q : Fin 4096) :
    V m c main_cst (ix2 r q) = Ideal.ofBits .f32 (lit0t (r.val * 4096 + q.val)) := by
  unfold V
  after_reads_at
  have e : S2x4096.rowMajor (ix2 r q) = ⟨r.val * 4096 + q.val, by show _ < 8192; omega⟩ :=
    Fin.ext (Shape.rowMajor_val_two _)
  rw [e]

theorem block_x0 (c : Dev nD) (t : Fin cfg0.N) (k : Fin 256) (q : Fin 4096) :
    iblk m c 0 t (ix3 0 k q) = V m c main_v15 (ix3 (img t) k q) := by
  obtain ⟨⟨e0, e1, e2⟩, -⟩ := idx t
  blk_ext! [iblk, img, e0, e1, e2]

theorem block_w0 (c : Dev nD) (t : Fin cfg0.N) (k : Fin 9) (k' : Fin 256) (o : Fin 100) :
    iblk m c 3 t (ix3 k k' o) = V m c main_v2 (ix3 k k' o) := by
  obtain ⟨-, ⟨e0, e1, e2⟩, -⟩ := idx t
  blk_ext! [iblk, e0, e1, e2]

theorem block_b0 (c : Dev nD) (t : Fin cfg0.N) (o : Fin 100) :
    iblk m c 6 t (ix2 0 o) = V m c main_v4 (ix2 0 o) := by
  obtain ⟨-, -, ⟨e0, e1, e2⟩, -⟩ := idx t
  blk_ext! [iblk, e0, e1, e2]

theorem block_m0 (c : Dev nD) (t : Fin cfg0.N) (r : Fin 2) (q : Fin 4096) :
    iblk m c 9 t (ix2 r q) = V m c main_cst (ix2 r q) := by
  obtain ⟨-, -, -, ⟨e0, e1, e2⟩, -⟩ := idx t
  blk_ext! [iblk, e0, e1, e2]

/-- The level's output array after the launch, as a function of the arguments. -/
def G0 (c : Dev nD) : Buf (Elt Ideal) ((c : Thread nD τ).loc main_v18_0) := fun i =>
  twoHeads (C := 256) (n := 64) (N := 4096) (O := 100) (Oc := 84) (Ol := 16) rfl (m ((c : Thread nD τ).loc main_arg0))
    (m ((c : Thread nD τ).loc main_arg6)) (m ((c : Thread nD τ).loc main_arg7))
    (m ((c : Thread nD τ).loc main_arg4)) (m ((c : Thread nD τ).loc main_arg5)) (i 0) (i 1) (i 2)

theorem final0 (c : Dev nD) : (dats m 0 c).arrAt 12 cfg0.N = G0 m c := by
  refine (dats m 0 c).arrAt_eq_of_covers 12 _ (by decide +kernel) fun t hf y => ?_
  blk_simp
  rw [after0_12]
  idx_vars y
  obtain rfl : y0 = 0 := Subsingleton.elim _ _
  have hm : Masks (n := 64) fun r q => iblk m c 9 t (ix2 r q) :=
    Masks.masks_of_words (M := 8192) (by decide) rfl lit0t Masks.lit0_word rfl _
      fun r q => (block_m0 m c t r q).trans (entry_m0 m c r q)
  refine (block0 _ _ _ _ _ _ _ _ _ _ _ _
    (fun k r s => m ((c : Thread nD τ).loc main_arg0) (ix4 (img t) k r s))
    (fun k q => (block_x0 m c t k q).trans (entry_x0 m c _ k q)) hm y1 y2).trans ?_
  refine (conv_stacked (B := 8) (Oc := 84) (Ol := 16) rfl (m ((c : Thread nD τ).loc main_arg0)) (m ((c : Thread nD τ).loc main_arg6))
    (m ((c : Thread nD τ).loc main_arg7)) (m ((c : Thread nD τ).loc main_arg4)) (m ((c : Thread nD τ).loc main_arg5)) (img t)
    y1 y2 _ _ (fun kh kw k => (block_w0 m c t _ k y2).trans (entry_w0 m c kh kw k y2))
    ((block_b0 m c t y2).trans (entry_b0 m c y2))).trans ?_
  obtain ⟨-, -, -, -, e0, e1, e2⟩ := idx t
  have e : ((cfg0.win 12).blk t).view.emb (ix3 0 y1 y2) = ix3 (img t) y1 y2 := by
    blk_ext [img, e0, e1, e2]
  exact (congrArg (G0 m c) e).symm

/-! ## Level 1 -/

theorem entry_x1 (c : Dev nD) (b : Fin 8) (k : Fin 512) (q : Fin 1024) :
    V m c main_v16 (ix3 b k q)
      = m ((c : Thread nD τ).loc main_arg1) (ix4 b k ⟨q.val / 32, by omega⟩ ⟨q.val % 32, by omega⟩) := by
  unfold V
  after_reads_at

theorem entry_w1 (c : Dev nD) (kh kw : Fin 3) (k : Fin 512) (o : Fin 150) :
    V m c main_v7 (ix3 ⟨3 * kh.val + kw.val, by omega⟩ k o)
      = if h : o.val < 126 then (m ((c : Thread nD τ).loc main_arg10) (ix4 ⟨o, h⟩ k kh kw) : EReal)
        else m ((c : Thread nD τ).loc main_arg8) (ix4 ⟨o.val - 126, by omega⟩ k kh kw) := by
  unfold V
  after_reads_at
  rfl

theorem entry_b1 (c : Dev nD) (o : Fin 150) :
    V m c main_v9 (ix2 0 o)
      = if h : o.val < 126 then (m ((c : Thread nD τ).loc main_arg11) (ix1 ⟨o, h⟩) : EReal)
        else m ((c : Thread nD τ).loc main_arg9) (ix1 ⟨o.val - 126, by omega⟩) := by
  unfold V
  after_reads_at
  rfl

theorem entry_m1 (c : Dev nD) (r : Fin 2) (q : Fin 1024) :
    V m c main_cst_0 (ix2 r q) = Ideal.ofBits .f32 (lit1t (r.val * 1024 + q.val)) := by
  unfold V
  after_reads_at
  have e : S2x1024.rowMajor (ix2 r q) = ⟨r.val * 1024 + q.val, by show _ < 2048; omega⟩ :=
    Fin.ext (Shape.rowMajor_val_two _)
  rw [e]

theorem block_x1 (c : Dev nD) (t : Fin cfg0.N) (k : Fin 512) (q : Fin 1024) :
    iblk m c 1 t (ix3 0 k q) = V m c main_v16 (ix3 (img t) k q) := by
  obtain ⟨⟨e0, e1, e2⟩, -⟩ := idx t
  blk_ext! [iblk, img, e0, e1, e2]

theorem block_w1 (c : Dev nD) (t : Fin cfg0.N) (k : Fin 9) (k' : Fin 512) (o : Fin 150) :
    iblk m c 4 t (ix3 k k' o) = V m c main_v7 (ix3 k k' o) := by
  obtain ⟨-, ⟨e0, e1, e2⟩, -⟩ := idx t
  blk_ext! [iblk, e0, e1, e2]

theorem block_b1 (c : Dev nD) (t : Fin cfg0.N) (o : Fin 150) :
    iblk m c 7 t (ix2 0 o) = V m c main_v9 (ix2 0 o) := by
  obtain ⟨-, -, ⟨e0, e1, e2⟩, -⟩ := idx t
  blk_ext! [iblk, e0, e1, e2]

theorem block_m1 (c : Dev nD) (t : Fin cfg0.N) (r : Fin 2) (q : Fin 1024) :
    iblk m c 10 t (ix2 r q) = V m c main_cst_0 (ix2 r q) := by
  obtain ⟨-, -, -, ⟨e0, e1, e2⟩, -⟩ := idx t
  blk_ext! [iblk, e0, e1, e2]

/-- The level's output array after the launch, as a function of the arguments. -/
def G1 (c : Dev nD) : Buf (Elt Ideal) ((c : Thread nD τ).loc main_v18_1) := fun i =>
  twoHeads (C := 512) (n := 32) (N := 1024) (O := 150) (Oc := 126) (Ol := 24) rfl (m ((c : Thread nD τ).loc main_arg1))
    (m ((c : Thread nD τ).loc main_arg10)) (m ((c : Thread nD τ).loc main_arg11))
    (m ((c : Thread nD τ).loc main_arg8)) (m ((c : Thread nD τ).loc main_arg9)) (i 0) (i 1) (i 2)

theorem final1 (c : Dev nD) : (dats m 0 c).arrAt 13 cfg0.N = G1 m c := by
  refine (dats m 0 c).arrAt_eq_of_covers 13 _ (by decide +kernel) fun t hf y => ?_
  blk_simp
  rw [after0_13]
  idx_vars y
  obtain rfl : y0 = 0 := Subsingleton.elim _ _
  have hm : Masks (n := 32) fun r q => iblk m c 10 t (ix2 r q) :=
    Masks.masks_of_words (M := 2048) (by decide) rfl lit1t Masks.lit1_word rfl _
      fun r q => (block_m1 m c t r q).trans (entry_m1 m c r q)
  refine (block1 _ _ _ _ _ _ _ _ _ _ _ _
    (fun k r s => m ((c : Thread nD τ).loc main_arg1) (ix4 (img t) k r s))
    (fun k q => (block_x1 m c t k q).trans (entry_x1 m c _ k q)) hm y1 y2).trans ?_
  refine (conv_stacked (B := 8) (Oc := 126) (Ol := 24) rfl (m ((c : Thread nD τ).loc main_arg1)) (m ((c : Thread nD τ).loc main_arg10))
    (m ((c : Thread nD τ).loc main_arg11)) (m ((c : Thread nD τ).loc main_arg8)) (m ((c : Thread nD τ).loc main_arg9)) (img t)
    y1 y2 _ _ (fun kh kw k => (block_w1 m c t _ k y2).trans (entry_w1 m c kh kw k y2))
    ((block_b1 m c t y2).trans (entry_b1 m c y2))).trans ?_
  obtain ⟨-, -, -, -, e0, e1, e2⟩ := idx t
  have e : ((cfg0.win 13).blk t).view.emb (ix3 0 y1 y2) = ix3 (img t) y1 y2 := by
    blk_ext [img, e0, e1, e2]
  exact (congrArg (G1 m c) e).symm

/-! ## Level 2 -/

theorem entry_x2 (c : Dev nD) (b : Fin 8) (k : Fin 256) (q : Fin 256) :
    V m c main_v17 (ix3 b k q)
      = m ((c : Thread nD τ).loc main_arg2) (ix4 b k ⟨q.val / 16, by omega⟩ ⟨q.val % 16, by omega⟩) := by
  unfold V
  after_reads_at

theorem entry_w2 (c : Dev nD) (kh kw : Fin 3) (k : Fin 256) (o : Fin 150) :
    V m c main_v12 (ix3 ⟨3 * kh.val + kw.val, by omega⟩ k o)
      = if h : o.val < 126 then (m ((c : Thread nD τ).loc main_arg14) (ix4 ⟨o, h⟩ k kh kw) : EReal)
        else m ((c : Thread nD τ).loc main_arg12) (ix4 ⟨o.val - 126, by omega⟩ k kh kw) := by
  unfold V
  after_reads_at
  rfl

theorem entry_b2 (c : Dev nD) (o : Fin 150) :
    V m c main_v14 (ix2 0 o)
      = if h : o.val < 126 then (m ((c : Thread nD τ).loc main_arg15) (ix1 ⟨o, h⟩) : EReal)
        else m ((c : Thread nD τ).loc main_arg13) (ix1 ⟨o.val - 126, by omega⟩) := by
  unfold V
  after_reads_at
  rfl

theorem entry_m2 (c : Dev nD) (r : Fin 2) (q : Fin 256) :
    V m c main_cst_1 (ix2 r q) = Ideal.ofBits .f32 (lit2t (r.val * 256 + q.val)) := by
  unfold V
  after_reads_at
  have e : S2x256.rowMajor (ix2 r q) = ⟨r.val * 256 + q.val, by show _ < 512; omega⟩ :=
    Fin.ext (Shape.rowMajor_val_two _)
  rw [e]

theorem block_x2 (c : Dev nD) (t : Fin cfg0.N) (k : Fin 256) (q : Fin 256) :
    iblk m c 2 t (ix3 0 k q) = V m c main_v17 (ix3 (img t) k q) := by
  obtain ⟨⟨e0, e1, e2⟩, -⟩ := idx t
  blk_ext! [iblk, img, e0, e1, e2]

theorem block_w2 (c : Dev nD) (t : Fin cfg0.N) (k : Fin 9) (k' : Fin 256) (o : Fin 150) :
    iblk m c 5 t (ix3 k k' o) = V m c main_v12 (ix3 k k' o) := by
  obtain ⟨-, ⟨e0, e1, e2⟩, -⟩ := idx t
  blk_ext! [iblk, e0, e1, e2]

theorem block_b2 (c : Dev nD) (t : Fin cfg0.N) (o : Fin 150) :
    iblk m c 8 t (ix2 0 o) = V m c main_v14 (ix2 0 o) := by
  obtain ⟨-, -, ⟨e0, e1, e2⟩, -⟩ := idx t
  blk_ext! [iblk, e0, e1, e2]

theorem block_m2 (c : Dev nD) (t : Fin cfg0.N) (r : Fin 2) (q : Fin 256) :
    iblk m c 11 t (ix2 r q) = V m c main_cst_1 (ix2 r q) := by
  obtain ⟨-, -, -, ⟨e0, e1, e2⟩, -⟩ := idx t
  blk_ext! [iblk, e0, e1, e2]

/-- The level's output array after the launch, as a function of the arguments. -/
def G2 (c : Dev nD) : Buf (Elt Ideal) ((c : Thread nD τ).loc main_v18_2) := fun i =>
  twoHeads (C := 256) (n := 16) (N := 256) (O := 150) (Oc := 126) (Ol := 24) rfl (m ((c : Thread nD τ).loc main_arg2))
    (m ((c : Thread nD τ).loc main_arg14)) (m ((c : Thread nD τ).loc main_arg15))
    (m ((c : Thread nD τ).loc main_arg12)) (m ((c : Thread nD τ).loc main_arg13)) (i 0) (i 1) (i 2)

theorem final2 (c : Dev nD) : (dats m 0 c).arrAt 14 cfg0.N = G2 m c := by
  refine (dats m 0 c).arrAt_eq_of_covers 14 _ (by decide +kernel) fun t hf y => ?_
  blk_simp
  rw [after0_14]
  idx_vars y
  obtain rfl : y0 = 0 := Subsingleton.elim _ _
  have hm : Masks (n := 16) fun r q => iblk m c 11 t (ix2 r q) :=
    Masks.masks_of_words (M := 512) (by decide) rfl lit2t Masks.lit2_word rfl _
      fun r q => (block_m2 m c t r q).trans (entry_m2 m c r q)
  refine (block2 _ _ _ _ _ _ _ _ _ _ _ _
    (fun k r s => m ((c : Thread nD τ).loc main_arg2) (ix4 (img t) k r s))
    (fun k q => (block_x2 m c t k q).trans (entry_x2 m c _ k q)) hm y1 y2).trans ?_
  refine (conv_stacked (B := 8) (Oc := 126) (Ol := 24) rfl (m ((c : Thread nD τ).loc main_arg2)) (m ((c : Thread nD τ).loc main_arg14))
    (m ((c : Thread nD τ).loc main_arg15)) (m ((c : Thread nD τ).loc main_arg12)) (m ((c : Thread nD τ).loc main_arg13)) (img t)
    y1 y2 _ _ (fun kh kw k => (block_w2 m c t _ k y2).trans (entry_w2 m c kh kw k y2))
    ((block_b2 m c t y2).trans (entry_b2 m c y2))).trans ?_
  obtain ⟨-, -, -, -, e0, e1, e2⟩ := idx t
  have e : ((cfg0.win 14).blk t).view.emb (ix3 0 y1 y2) = ix3 (img t) y1 y2 := by
    blk_ext [img, e0, e1, e2]
  exact (congrArg (G2 m c) e).symm

end Cert.KernelIdeal.Arrays

end
-- ==== Proof.Tail.lean ====
/- What the kernel's program returns: the lines after the launch cut the three output arrays into heads and join the
   levels; the table of prior boxes is a constant. -/
module

public import proofs.«01_k».proof.Proof.Arrays
public import proofs.«01_k».proof.Proof.Heads

@[expose] public section

set_option maxRecDepth 16384

noncomputable section

namespace Cert.KernelIdeal.Tail

open Idealize.ShloMosaic Idealize.ShloMosaic.TcCoe Idealize.SL.Sem
open Cert.KernelIdeal.Gen Cert.Conv Cert.KernelIdeal.Arrays

variable (m : (ℓ : Loc nD τ sig) → Buf (Elt Ideal) ℓ)

theorem arr_injective : Function.Injective (Pipeline.arrRef spec0) := by decide

/-- What the lines after the launch start from. -/
abbrev start (c : Dev nD) : Valuation τ sig (Elt Ideal) :=
  Pipeline.withArrays spec0 c (V0 m c) fun w => (dats m 0 c).arrAt w cfg0.N

theorem start0 (c : Dev nD) : start m c (Proc.devRef .tc main_v18_0) = G0 m c :=
  (Pipeline.withArrays_arr spec0 arr_injective c _ _ 12).trans (final0 m c)
theorem start1 (c : Dev nD) : start m c (Proc.devRef .tc main_v18_1) = G1 m c :=
  (Pipeline.withArrays_arr spec0 arr_injective c _ _ 13).trans (final1 m c)
theorem start2 (c : Dev nD) : start m c (Proc.devRef .tc main_v18_2) = G2 m c :=
  (Pipeline.withArrays_arr spec0 arr_injective c _ _ 14).trans (final2 m c)

/-- The boxes' offsets, as the lines after the launch leave them. -/
theorem loc_eq (c : Dev nD) : Pipeline.afterTail₀ cfgs (dats m) 0 (V0 m) [hostOps1] c main_v31
    = concatenate S8x24064x4 1
        [⟨S8x16384x4, shapeCast S8x16384x4 (extractStridedSlice S8x4096x16 ![0, 0, 84] (G0 m c) slices_S8x4096x100_S8x4096x16_0_0_84) shapeCasts_S8x4096x16_S8x16384x4⟩,
         ⟨S8x6144x4, shapeCast S8x6144x4 (extractStridedSlice S8x1024x24 ![0, 0, 126] (G1 m c) slices_S8x1024x150_S8x1024x24_0_0_126) shapeCasts_S8x1024x24_S8x6144x4⟩,
         ⟨S8x1536x4, shapeCast S8x1536x4 (extractStridedSlice S8x256x24 ![0, 0, 126] (G2 m c) slices_S8x256x150_S8x256x24_0_0_126) shapeCasts_S8x256x24_S8x1536x4⟩]
        concatenates_S8x16384x4_S8x6144x4_S8x1536x4_S8x24064x4_d1 := by
  unfold Pipeline.afterTail₀
  rw [← start0, ← start1, ← start2]
  after_results
  rfl

/-- The classes' scores, as the lines after the launch leave them. -/
theorem conf_eq (c : Dev nD) : Pipeline.afterTail₀ cfgs (dats m) 0 (V0 m) [hostOps1] c main_v32
    = concatenate S8x24064x21 1
        [⟨S8x16384x21, shapeCast S8x16384x21 (extractStridedSlice S8x4096x84 ![0, 0, 0] (G0 m c) slices_S8x4096x100_S8x4096x84_0_0_0) shapeCasts_S8x4096x84_S8x16384x21⟩,
         ⟨S8x6144x21, shapeCast S8x6144x21 (extractStridedSlice S8x1024x126 ![0, 0, 0] (G1 m c) slices_S8x1024x150_S8x1024x126_0_0_0) shapeCasts_S8x1024x126_S8x6144x21⟩,
         ⟨S8x1536x21, shapeCast S8x1536x21 (extractStridedSlice S8x256x126 ![0, 0, 0] (G2 m c) slices_S8x256x150_S8x256x126_0_0_0) shapeCasts_S8x256x126_S8x1536x21⟩]
        concatenates_S8x16384x21_S8x6144x21_S8x1536x21_S8x24064x21_d1 := by
  unfold Pipeline.afterTail₀
  rw [← start0, ← start1, ← start2]
  after_results
  rfl

/-- The prior boxes: no line writes the table after it is set. -/
theorem pri_eq (c : Dev nD) : Pipeline.afterTail₀ cfgs (dats m) 0 (V0 m) [hostOps1] c main_cst_2
    = fun i => FloatOps.ofBits (F := Ideal) .f32 (lit3 (S1x2x24064x4.rowMajor i)) := by
  unfold Pipeline.afterTail₀
  rw [StableHlo.after_of_forall_not_mem (b := Proc.devRef .tc main_cst_2) _ _ (List.forall_iff_forall_mem.mp (by
      simp only [hostOps1, List.flatten_cons, List.flatten_nil, List.append_nil, List.Forall, StableHlo.unary_writes,
        StableHlo.reshape_writes, StableHlo.nary_writes, Finset.mem_singleton]
      repeat' apply And.intro
      all_goals exact StableHlo.devRef_ne_of_ne (by decide))),
    Pipeline.withArrays_of_ne _ c (V0 m c) _ main_cst_2 (by exact (by decide : ∀ w, Pipeline.arrRef spec0 w ≠ main_cst_2))]
  funext i
  dsimp only [V0]
  after_reads_at

/-- The boxes' offsets: the three levels one after another, each flat. -/
theorem loc_at (c : Dev nD) (b : Fin 8) (r : Fin 24064) (k : Fin 4) :
    Pipeline.afterTail₀ cfgs (dats m) 0 (V0 m) [hostOps1] c main_v31 (ix3 b r k)
      = join3 (flat (B := 8) (C := 256) (n := 64) (O := 16) (m ((c : Thread nD τ).loc main_arg0)) (m ((c : Thread nD τ).loc main_arg4)) (m ((c : Thread nD τ).loc main_arg5)) b)
        (flat (B := 8) (C := 512) (n := 32) (O := 24) (m ((c : Thread nD τ).loc main_arg1)) (m ((c : Thread nD τ).loc main_arg8)) (m ((c : Thread nD τ).loc main_arg9)) b)
        (flat (B := 8) (C := 256) (n := 16) (O := 24) (m ((c : Thread nD τ).loc main_arg2)) (m ((c : Thread nD τ).loc main_arg12)) (m ((c : Thread nD τ).loc main_arg13)) b)
        65536 24576 (r.val * 4 + k.val) := by
  rw [loc_eq]
  refine cat3_at (R₀ := 16384) (R₁ := 6144) (R₂ := 1536) (K := 4) _ _ _ rfl _ _ _ _ b (fun r k => ?_) (fun r k => ?_) (fun r k => ?_) r k
  · exact channels_at (M := 4096) (O := 16) (R := 16384) (K := 4) (G0 m c) _ _ rfl _ b (fun p o ho => twoHeads_right (Oc := 84) rfl _ _ _ _ _ b p o ho) r k
  · exact channels_at (M := 1024) (O := 24) (R := 6144) (K := 4) (G1 m c) _ _ rfl _ b (fun p o ho => twoHeads_right (Oc := 126) rfl _ _ _ _ _ b p o ho) r k
  · exact channels_at (M := 256) (O := 24) (R := 1536) (K := 4) (G2 m c) _ _ rfl _ b (fun p o ho => twoHeads_right (Oc := 126) rfl _ _ _ _ _ b p o ho) r k

/-- The classes' scores, in the same order. -/
theorem conf_at (c : Dev nD) (b : Fin 8) (r : Fin 24064) (k : Fin 21) :
    Pipeline.afterTail₀ cfgs (dats m) 0 (V0 m) [hostOps1] c main_v32 (ix3 b r k)
      = join3 (flat (B := 8) (C := 256) (n := 64) (O := 84) (m ((c : Thread nD τ).loc main_arg0)) (m ((c : Thread nD τ).loc main_arg6)) (m ((c : Thread nD τ).loc main_arg7)) b)
        (flat (B := 8) (C := 512) (n := 32) (O := 126) (m ((c : Thread nD τ).loc main_arg1)) (m ((c : Thread nD τ).loc main_arg10)) (m ((c : Thread nD τ).loc main_arg11)) b)
        (flat (B := 8) (C := 256) (n := 16) (O := 126) (m ((c : Thread nD τ).loc main_arg2)) (m ((c : Thread nD τ).loc main_arg14)) (m ((c : Thread nD τ).loc main_arg15)) b)
        344064 129024 (r.val * 21 + k.val) := by
  rw [conf_eq]
  refine cat3_at (R₀ := 16384) (R₁ := 6144) (R₂ := 1536) (K := 21) _ _ _ rfl _ _ _ _ b (fun r k => ?_) (fun r k => ?_) (fun r k => ?_) r k
  · exact channels_at (M := 4096) (O := 84) (R := 16384) (K := 21) (G0 m c) _ _ rfl _ b (fun p o ho => twoHeads_left (Oc := 84) rfl _ _ _ _ _ b p o ho) r k
  · exact channels_at (M := 1024) (O := 126) (R := 6144) (K := 21) (G1 m c) _ _ rfl _ b (fun p o ho => twoHeads_left (Oc := 126) rfl _ _ _ _ _ b p o ho) r k
  · exact channels_at (M := 256) (O := 126) (R := 1536) (K := 21) (G2 m c) _ _ rfl _ b (fun p o ho => twoHeads_left (Oc := 126) rfl _ _ _ _ _ b p o ho) r k

end Cert.KernelIdeal.Tail

end
-- ==== Proof.Equation.lean ====
/- The equation between the two programs: from memories that agree on the arguments, the kernel's program and the
   reference end with the same boxes' offsets, the same classes' scores and the same table of priors. -/
module

public import proofs.«01_k».proof.Defs
public import proofs.«01_k».proof.Proof.Priors
public import proofs.«01_k».proof.Proof.Reference
public import proofs.«01_k».proof.Proof.Levels
public import proofs.«01_k».proof.Proof.Tail

@[expose] public section

set_option maxRecDepth 16384

noncomputable section

namespace Cert.Equation

open Idealize.ShloMosaic Idealize.ShloMosaic.TcCoe Idealize.SL.Sem

variable (m : (ℓ : Loc Cert.KernelIdeal.nD Cert.KernelIdeal.τ Cert.KernelIdeal.sig) → Buf (Elt Ideal) ℓ)

/-- What the kernel's program leaves in a buffer that its launch does not own. -/
abbrev left (c : Dev Cert.KernelIdeal.nD) (b : Ref Cert.KernelIdeal.sig .tc) :=
  Pipeline.afterTail₀ Cert.KernelIdeal.cfgs (Cert.KernelIdeal.Gen.dats m) 0 (Cert.KernelIdeal.Gen.V0 m)
    [Cert.KernelIdeal.Gen.hostOps1] c b

/-- The kernel's table of priors, box by box. -/
theorem stored_at (i : Cert.KernelIdeal.S1x2x24064x4.Idx) :
    FloatOps.ofBits (F := Ideal) .f32 (Cert.KernelIdeal.lit3 (Cert.KernelIdeal.S1x2x24064x4.rowMajor i))
      = Cert.Priors.val (Cert.Priors.number (Cert.KernelIdeal.S1x2x24064x4.rowMajor i).val) :=
  congrArg (Ideal.ofBits .f32) (Cert.Priors.table (Cert.KernelIdeal.S1x2x24064x4.rowMajor i))

/-- The last claim: the two programs return the same three arrays. -/
theorem equal : Cert.algebraic_KernelIdeal_ReferenceIdeal := by
  intro m g m' g' _ hargs
  refine ⟨fun c => left m c Cert.KernelIdeal.main_v31, fun c => left m c Cert.KernelIdeal.main_v32,
    fun c => left m c Cert.KernelIdeal.main_cst_2, ?_, ?_⟩
  · refine (θ_run Cert.KernelIdeal.defs _ _).mono (fun r h c => ⟨?_, ?_, ?_, h.2 c⟩)
      (θ_run_and (Cert.KernelIdeal.Gen.run_main m g) (Cert.KernelIdeal.Gen.unchanged m g))
    · exact h.1.rest_eq c Cert.KernelIdeal.main_v31 (by decide)
    · exact h.1.rest_eq c Cert.KernelIdeal.main_v32 (by decide)
    · exact h.1.rest_eq c Cert.KernelIdeal.main_cst_2 (by decide)
  · refine (θ_run Cert.ReferenceIdeal.defs _ _).mono (fun r h c => ⟨(h c).1.trans ?_, (h c).2.1.trans ?_,
      (h c).2.2.1.trans ?_, (h c).2.2.2⟩) (Cert.ReferenceIdeal.Value.run (F := Ideal) m' g')
    · obtain ⟨h0, h1, h2, _, h4, h5, _, _, h8, h9, _, _, h12, h13, _, _⟩ := hargs c
      funext i
      obtain ⟨b, r, k, rfl⟩ : ∃ (b : Fin 8) (r : Fin 24064) (k : Fin 4), i = ix3 b r k := ⟨i 0, i 1, i 2, eq_ix3 i⟩
      refine (Cert.ReferenceIdeal.Heads.loc_at _ b r k).trans (Eq.trans ?_ (Cert.KernelIdeal.Tail.loc_at m c b r k).symm)
      rw [← h0, ← h1, ← h2, ← h4, ← h5, ← h8, ← h9, ← h12, ← h13]
    · obtain ⟨h0, h1, h2, _, _, _, h6, h7, _, _, h10, h11, _, _, h14, h15⟩ := hargs c
      funext i
      obtain ⟨b, r, k, rfl⟩ : ∃ (b : Fin 8) (r : Fin 24064) (k : Fin 21), i = ix3 b r k := ⟨i 0, i 1, i 2, eq_ix3 i⟩
      refine (Cert.ReferenceIdeal.Heads.conf_at _ b r k).trans (Eq.trans ?_ (Cert.KernelIdeal.Tail.conf_at m c b r k).symm)
      rw [← h0, ← h1, ← h2, ← h6, ← h7, ← h10, ← h11, ← h14, ← h15]
    · funext i
      exact (Cert.Priors.returned_at _ i).trans ((stored_at i).symm.trans (congrFun (Cert.KernelIdeal.Tail.pri_eq m c) i).symm)

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference ends with its arguments unchanged; it has no counters. -/
theorem reference_frame : Cert.quiescent_ReferenceIdeal := fun m g _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m g)

/-- The five claims, in the order of `Cert.Claim`. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_frame, trivial, Cert.Equation.equal⟩

end Cert.Proof

end
